-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
-- ==== Pre_finite_queries_keys.lean ====
abbrev S4x2048x16x64 : Shape := ⟨4, ![4, 2048, 16, 64]⟩
abbrev S1 : Shape := ⟨1, ![1]⟩
abbrev S_ : Shape := ⟨0, ![]⟩

class Facts : Prop where
  bcast_S_S4x2048x16x64 : S_.BroadcastsInDim S4x2048x16x64 (![] : Fin 0 → Fin S4x2048x16x64.rank)

variable [Facts]

def fn {F : FTy → Type} [FloatOps F] (main_arg0 : FVec F S4x2048x16x64 .f32) (main_arg1 : FVec F S4x2048x16x64 .f32) (main_arg2 : FVec F S4x2048x16x64 .f32) (main_arg3 : IVec S1 1) : IVec S4x2048x16x64 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_v3 : FVec F S4x2048x16x64 .f32 := Host.absf main_arg1
  let main_cst_0 : FVec F S_ .f32 := constant S_ .f32 0x7F800000#32
  let main_v4 : FVec F S4x2048x16x64 .f32 := broadcastInDim S4x2048x16x64 ![] bcast_S_S4x2048x16x64 main_cst_0
  let main_v5 : IVec S4x2048x16x64 1 := cmpf .olt main_v3 main_v4
  let main_v6 : IVec S4x2048x16x64 1 := andi main_v2 main_v5
  main_v6
-- ==== Kernel.lean ====
abbrev S4x2048x16x64 : Shape := ⟨4, ![4, 2048, 16, 64]⟩
abbrev S1 : Shape := ⟨1, ![1]⟩
abbrev S40x2048 : Shape := ⟨2, ![40, 2048]⟩
abbrev S8x2048x64 : Shape := ⟨3, ![8, 2048, 64]⟩
abbrev S40x8x2048 : Shape := ⟨3, ![40, 8, 2048]⟩
abbrev S_ : Shape := ⟨0, ![]⟩
abbrev S1x2048x64 : Shape := ⟨3, ![1, 2048, 64]⟩
abbrev S2048x64 : Shape := ⟨2, ![2048, 64]⟩
abbrev S1x2048x1x64 : Shape := ⟨4, ![1, 2048, 1, 64]⟩
abbrev S8x2048 : Shape := ⟨2, ![8, 2048]⟩
abbrev S40x64 : Shape := ⟨2, ![40, 64]⟩
abbrev S2048 : Shape := ⟨1, ![2048]⟩
abbrev S1x2048 : Shape := ⟨2, ![1, 2048]⟩
abbrev S8 : Shape := ⟨1, ![8]⟩
abbrev S8x1 : Shape := ⟨2, ![8, 1]⟩
abbrev S1x8x2048 : Shape := ⟨3, ![1, 8, 2048]⟩
abbrev S256x256 : Shape := ⟨2, ![256, 256]⟩
abbrev S40x1 : Shape := ⟨2, ![40, 1]⟩
abbrev S2048x1 : Shape := ⟨2, ![2048, 1]⟩
abbrev S40x1x2048 : Shape := ⟨3, ![40, 1, 2048]⟩
abbrev S40 : Shape := ⟨1, ![40]⟩
abbrev S1x64 : Shape := ⟨2, ![1, 64]⟩
abbrev S1x256x64 : Shape := ⟨3, ![1, 256, 64]⟩
abbrev S256x64 : Shape := ⟨2, ![256, 64]⟩
abbrev S40x256 : Shape := ⟨2, ![40, 256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S1, .i1⟩
  | .hbm, ⟨4, _⟩ => ⟨S40x2048, .f32⟩
  | .hbm, ⟨5, _⟩ => ⟨S4x2048x16x64, .f32⟩
  | .local _ .vmem, ⟨0, _⟩ => ⟨S40x2048, .f32⟩
  | .local _ .vmem, ⟨1, _⟩ => ⟨S8x2048x64, .f32⟩
  | .local _ .vmem, ⟨2, _⟩ => ⟨S8x2048x64, .f32⟩
  | .local _ .vmem, ⟨3, _⟩ => ⟨S8x2048x64, .f32⟩
  | .local _ .vmem, ⟨4, _⟩ => ⟨S8x2048x64, .f32⟩
  | .local _ .vmem, ⟨5, _⟩ => ⟨S40x8x2048, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0

abbrev nD : Nat := 1
abbrev τ : Topo := Topo.v7x

variable {F : FTy → Type} [FloatOps F]

abbrev grid0 : Pipeline.Grid := ⟨2, ![4, 2], ![false, false]⟩

def k0_off1 (i : grid0.Coords) (c0_i32 : BitVec 32) : Fin 4 → Nat :=
  let arg0 : BitVec 32 := BitVec.ofNat 32 (i 0).val
  let c0_i32_10 : BitVec 32 := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c0_i32_11 : BitVec 32 := 0#32
  ![arg0.toNat, 0, v1.toNat, 0]
@[reducible] def k0_t1_loop : Scf.Loop 32 :=
  let c0_i32_328 : BitVec 32 := 0#32
  let c40_i32 : BitVec 32 := 40#32
  let v323 : BitVec 32 := Scalar.addi c0_i32_328 c40_i32
  let c1_i32_329 : BitVec 32 := 1#32
  ⟨c0_i32_328, v323, c1_i32_329⟩
def k0_off2 (k0_t1 : Fin k0_t1_loop.trips) : Fin 3 → Nat :=
  let c0_i32_328 : BitVec 32 := 0#32
  let c1_i32_329 : BitVec 32 := 1#32
  let arg14 : BitVec 32 := Scf.iv c0_i32_328 c1_i32_329 k0_t1
  let v1739 : Index := Scalar.indexCast arg14
  let c0_1231 : Index := 0#32
  let c0_1232 : Index := 0#32
  ![v1739.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]
-- ==== ReferenceIdeal.lean ====
abbrev S4x2048x16x64 : Shape := ⟨4, ![4, 2048, 16, 64]⟩
abbrev S1 : Shape := ⟨1, ![1]⟩
abbrev S40 : Shape := ⟨1, ![40]⟩
abbrev S4x16x2048x64 : Shape := ⟨4, ![4, 16, 2048, 64]⟩
abbrev S_ : Shape := ⟨0, ![]⟩
abbrev S40x1 : Shape := ⟨2, ![40, 1]⟩
abbrev S1x1 : Shape := ⟨2, ![1, 1]⟩
abbrev S4x16x40x64 : Shape := ⟨4, ![4, 16, 40, 64]⟩
abbrev S4x16x2048x40 : Shape := ⟨4, ![4, 16, 2048, 40]⟩
abbrev S4x16x2048 : Shape := ⟨3, ![4, 16, 2048]⟩
abbrev S4x16x40 : Shape := ⟨3, ![4, 16, 40]⟩
abbrev S4x16x40x1 : Shape := ⟨4, ![4, 16, 40, 1]⟩
abbrev S1x1x1x1 : Shape := ⟨4, ![1, 1, 1, 1]⟩
abbrev S4x16x40x2048 : Shape := ⟨4, ![4, 16, 40, 2048]⟩
abbrev S2048x2048 : Shape := ⟨2, ![2048, 2048]⟩
abbrev S4 : Shape := ⟨1, ![4]⟩
abbrev S4x1x1 : Shape := ⟨3, ![4, 1, 1]⟩
abbrev S16 : Shape := ⟨1, ![16]⟩
abbrev S1x16x1 : Shape := ⟨3, ![1, 16, 1]⟩
abbrev S4x16x40x3 : Shape := ⟨4, ![4, 16, 40, 3]⟩

abbrev nBuf : Space → Nat
  | .hbm => 145
  | .vmem => 0
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S1, .i1⟩
  | 4 => ⟨S40, .i32⟩
  | 5 => ⟨S4x16x2048x64, .f32⟩
  | 6 => ⟨S4x16x2048x64, .f32⟩
  | 7 => ⟨S4x16x2048x64, .f32⟩
  | 8 => ⟨S_, .i32⟩
  | 9 => ⟨S40, .i32⟩
  | 10 => ⟨S40, .i1⟩
  | 11 => ⟨S_, .i32⟩
  | 12 => ⟨S40, .i32⟩
  | 13 => ⟨S40, .i32⟩
  | 14 => ⟨S40, .i32⟩
  | 15 => ⟨S40x1, .i32⟩
  | 16 => ⟨S1, .i32⟩
  | 17 => ⟨S_, .i32⟩
  | 18 => ⟨S40x1, .i32⟩
  | 19 => ⟨S40x1, .i1⟩
  | 20 => ⟨S1x1, .i32⟩
  | 21 => ⟨S40x1, .i32⟩
  | 22 => ⟨S40x1, .i1⟩
  | 23 => ⟨S40x1, .i1⟩
  | 24 => ⟨S_, .i1⟩
  | 25 => ⟨S40, .i1⟩
  | 26 => ⟨S4x16x40x64, .f32⟩
  | 27 => ⟨S4x16x40x64, .i1⟩
  | 28 => ⟨S_, .f32⟩
  | 29 => ⟨S4x16x40x64, .f32⟩
  | 30 => ⟨S4x16x40x64, .f32⟩
  | 31 => ⟨S4x16x40x64, .f32⟩
  | 32 => ⟨S4x16x2048x40, .f32⟩
  | 33 => ⟨S_, .f32⟩
  | 34 => ⟨S4x16x2048, .f32⟩
  | 35 => ⟨S_, .f32⟩
  | 36 => ⟨S4x16x2048, .f32⟩
  | 37 => ⟨S_, .f32⟩
  | 38 => ⟨S4x16x2048, .f32⟩
  | 39 => ⟨S4x16x2048, .f32⟩
  | 40 => ⟨S4x16x2048, .f32⟩
  | 41 => ⟨S4x16x40, .f32⟩
  | 42 => ⟨S4x16x40, .i32⟩
  | 43 => ⟨S4x16x40x1, .i32⟩
  | 44 => ⟨S_, .i32⟩
  | 45 => ⟨S4x16x40x1, .i32⟩
  | 46 => ⟨S4x16x40x1, .i1⟩
  | 47 => ⟨S_, .i32⟩
  | 48 => ⟨S4x16x40x1, .i32⟩
  | 49 => ⟨S4x16x40x1, .i32⟩
  | 50 => ⟨S4x16x40x1, .i32⟩
  | 51 => ⟨S1, .i32⟩
  | 52 => ⟨S_, .i32⟩
  | 53 => ⟨S4x16x40x1, .i32⟩
  | 54 => ⟨S4x16x40x1, .i1⟩
  | 55 => ⟨S1x1x1x1, .i32⟩
  | 56 => ⟨S4x16x40x1, .i32⟩
  | 57 => ⟨S4x16x40x1, .i1⟩
  | 58 => ⟨S4x16x40x1, .i1⟩
  | 59 => ⟨S_, .i1⟩
  | 60 => ⟨S4x16x40, .i1⟩
  | 61 => ⟨S4x16x40x64, .f32⟩
  | 62 => ⟨S4x16x40x64, .i1⟩
  | 63 => ⟨S_, .f32⟩
  | 64 => ⟨S4x16x40x64, .f32⟩
  | 65 => ⟨S4x16x40x64, .f32⟩
  | 66 => ⟨S4x16x40x2048, .f32⟩
  | 67 => ⟨S_, .f32⟩
  | 68 => ⟨S4x16x40x2048, .f32⟩
  | 69 => ⟨S4x16x40x2048, .f32⟩
  | 70 => ⟨S_, .f32⟩
  | 71 => ⟨S_, .f32⟩
  | 72 => ⟨S4x16x2048x64, .f32⟩
  | 73 => ⟨S_, .i1⟩
  | 74 => ⟨S2048x2048, .i1⟩
  | 75 => ⟨S2048x2048, .i32⟩
  | 76 => ⟨S_, .i32⟩
  | 77 => ⟨S2048x2048, .i32⟩
  | 78 => ⟨S2048x2048, .i32⟩
  | 79 => ⟨S2048x2048, .i32⟩
  | 80 => ⟨S2048x2048, .i1⟩
  | 81 => ⟨S_, .i1⟩
  | 82 => ⟨S2048x2048, .i1⟩
  | 83 => ⟨S2048x2048, .i1⟩
  | 84 => ⟨S_, .i32⟩
  | 85 => ⟨S4x16x40, .i32⟩
  | 86 => ⟨S4x16x40, .i1⟩
  | 87 => ⟨S_, .i32⟩
  | 88 => ⟨S4x16x40, .i32⟩
  | 89 => ⟨S4x16x40, .i32⟩
  | 90 => ⟨S4x16x40, .i32⟩
  | 91 => ⟨S4x16x40x1, .i32⟩
  | 92 => ⟨S4x16x40x2048, .i1⟩
  | 93 => ⟨S_, .f32⟩
  | 94 => ⟨S_, .f32⟩
  | 95 => ⟨S4x16x40x2048, .f32⟩
  | 96 => ⟨S4x16x40x2048, .f32⟩
  | 97 => ⟨S_, .f32⟩
  | 98 => ⟨S4x16x40, .f32⟩
  | 99 => ⟨S_, .f32⟩
  | 100 => ⟨S4x16x40, .f32⟩
  | 101 => ⟨S4x16x40, .f32⟩
  | 102 => ⟨S4x16x40x1, .f32⟩
  | 103 => ⟨S4x16x40x2048, .f32⟩
  | 104 => ⟨S4x16x40x2048, .f32⟩
  | 105 => ⟨S4x16x40x2048, .f32⟩
  | 106 => ⟨S_, .f32⟩
  | 107 => ⟨S4x16x40, .f32⟩
  | 108 => ⟨S4x16x40x1, .f32⟩
  | 109 => ⟨S4x16x40x2048, .f32⟩
  | 110 => ⟨S4x16x40x2048, .f32⟩
  | 111 => ⟨S4x16x40x64, .f32⟩
  | 112 => ⟨S4, .i32⟩
  | 113 => ⟨S4x1x1, .i32⟩
  | 114 => ⟨S16, .i32⟩
  | 115 => ⟨S1x16x1, .i32⟩
  | 116 => ⟨S_, .i32⟩
  | 117 => ⟨S4x1x1, .i32⟩
  | 118 => ⟨S4x1x1, .i1⟩
  | 119 => ⟨S_, .i32⟩
  | 120 => ⟨S4x1x1, .i32⟩
  | 121 => ⟨S4x1x1, .i32⟩
  | 122 => ⟨S4x1x1, .i32⟩
  | 123 => ⟨S_, .i32⟩
  | 124 => ⟨S1x16x1, .i32⟩
  | 125 => ⟨S1x16x1, .i1⟩
  | 126 => ⟨S_, .i32⟩
  | 127 => ⟨S1x16x1, .i32⟩
  | _ => ⟨S4x2048x16x64, .f32⟩

abbrev hbmTy0_1 (i : Nat) : BufTy := match i % 128 with
  | 0 => ⟨S1x16x1, .i32⟩
  | 1 => ⟨S1x16x1, .i32⟩
  | 2 => ⟨S_, .i32⟩
  | 3 => ⟨S4x16x40, .i32⟩
  | 4 => ⟨S4x16x40, .i1⟩
  | 5 => ⟨S_, .i32⟩
  | 6 => ⟨S4x16x40, .i32⟩
  | 7 => ⟨S4x16x40, .i32⟩
  | 8 => ⟨S4x16x40, .i32⟩
  | 9 => ⟨S4x16x40, .i32⟩
  | 10 => ⟨S4x16x40, .i32⟩
  | 11 => ⟨S4x16x40x1, .i32⟩
  | 12 => ⟨S4x16x40x1, .i32⟩
  | 13 => ⟨S4x16x40x1, .i32⟩
  | 14 => ⟨S4x16x40x3, .i32⟩
  | 15 => ⟨S4x16x2048x64, .f32⟩
  | 16 => ⟨S4x2048x16x64, .f32⟩
  | _ => ⟨S4x2048x16x64, .f32⟩

abbrev hbmTy (i : Nat) : BufTy := match i / 128 with
  | 0 => hbmTy0_0 i
  | 1 => hbmTy0_1 i
  | _ => ⟨S4x2048x16x64, .f32⟩

abbrev bufTy : (tb : Table) → Fin (tcTables nBuf tb) → BufTy
  | .hbm, ⟨i, _⟩ => hbmTy i
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_values : Ref sig .tc := ⟨.hbm, 41, rfl⟩
abbrev main_indices : Ref sig .tc := ⟨.hbm, 42, rfl⟩
abbrev main_v11 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_c_2 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_c_3 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v12 : Ref sig .tc := ⟨.hbm, 65, rfl⟩
abbrev main_v13 : Ref sig .tc := ⟨.hbm, 66, rfl⟩
abbrev main_cst_2 : Ref sig .tc := ⟨.hbm, 67, rfl⟩
abbrev main_v14 : Ref sig .tc := ⟨.hbm, 68, rfl⟩
abbrev main_v15 : Ref sig .tc := ⟨.hbm, 69, rfl⟩
abbrev main_call2_call0_cst : Ref sig .tc := ⟨.hbm, 70, rfl⟩
abbrev main_call2_call0_v0 : Ref sig .tc := ⟨.hbm, 71, rfl⟩
abbrev main_v16 : Ref sig .tc := ⟨.hbm, 72, rfl⟩
abbrev main_c_3 : Ref sig .tc := ⟨.hbm, 73, rfl⟩
abbrev main_v17 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_0 : Ref sig .tc := ⟨.hbm, 81, rfl⟩
abbrev main_call3_v5 : Ref sig .tc := ⟨.hbm, 82, rfl⟩
abbrev main_v18 : Ref sig .tc := ⟨.hbm, 83, rfl⟩
abbrev main_c_4 : Ref sig .tc := ⟨.hbm, 84, rfl⟩
abbrev main_v19 : Ref sig .tc := ⟨.hbm, 85, rfl⟩
abbrev main_v20 : Ref sig .tc := ⟨.hbm, 86, rfl⟩
abbrev main_c_5 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_cst_6 : Ref sig .tc := ⟨.hbm, 93, rfl⟩
abbrev main_call4_v0 : Ref sig .tc := ⟨.hbm, 94, rfl⟩
abbrev main_call4_v1 : Ref sig .tc := ⟨.hbm, 95, rfl⟩
abbrev main_v26 : Ref sig .tc := ⟨.hbm, 96, rfl⟩
abbrev main_cst_7 : Ref sig .tc := ⟨.hbm, 97, rfl⟩
abbrev main_v27 : Ref sig .tc := ⟨.hbm, 98, rfl⟩
abbrev main_cst_8 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_cst_9 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_c_10 : Ref sig .tc := ⟨.hbm, 116, rfl⟩
abbrev main_v43 : Ref sig .tc := ⟨.hbm, 117, rfl⟩
abbrev main_v44 : Ref sig .tc := ⟨.hbm, 118, rfl⟩
abbrev main_c_11 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_c_12 : Ref sig .tc := ⟨.hbm, 123, rfl⟩
abbrev main_v48 : Ref sig .tc := ⟨.hbm, 124, rfl⟩
abbrev main_v49 : Ref sig .tc := ⟨.hbm, 125, rfl⟩
abbrev main_c_13 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_c_14 : Ref sig .tc := ⟨.hbm, 130, rfl⟩
abbrev main_v53 : Ref sig .tc := ⟨.hbm, 131, rfl⟩
abbrev main_v54 : Ref sig .tc := ⟨.hbm, 132, rfl⟩
abbrev main_c_15 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩

abbrev nD : Nat := 1
abbrev τ : Topo := Topo.v7x

variable {F : FTy → Type} [FloatOps F]
-- ==== Proof.KernelIdeal.Loop.lean ====
/-
  The counted loop of the kernel: forty rounds, each of which marks in every row of the carried table the first
  place of the greatest entry, stores the marks as one slab of the marks' buffer, and lowers the marked entries to
  minus infinity. `carry` is the table before a round, `marks` the slabs stored before it (the last first), both
  from the rounds' two payloads; the invariant says the buffer is what it was with those slabs written.
-/
module

public import proofs.«01_k».proof.Proof.Gen.KernelIdeal.Loops
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table before round `k`: the first one, its marked entries lowered round by round. -/
def carry (v209 : IVec S8x2048 32) (x : FVec F S8x2048 .f32) : ℕ → FVec F S8x2048 .f32
  | 0 => x
  | k + 1 => k0_pay15 v209 (carry v209 x k)

/-- The slabs stored before round `k`, the last first: round `k`'s is the marks of the table before it. -/
def marks (v209 : IVec S8x2048 32) (x : FVec F S8x2048 .f32) : ℕ → List (View.Piece (Elt F) S40x8x2048 .f32)
  | 0 => []
  | k + 1 => if h : k < k0_t1_loop.trips then
      ⟨Rect.unit (s := S40x8x2048) (k0_off2 ⟨k, h⟩) S1x8x2048.size (k0_off2_inb ⟨k, h⟩), k0_pay14 v209 (carry v209 x k)⟩ :: marks v209 x k
    else marks v209 x k

theorem marks_succ (v209 : IVec S8x2048 32) (x : FVec F S8x2048 .f32) (k : Fin k0_t1_loop.trips) :
    marks v209 x (k.val + 1)
      = ⟨Rect.unit (s := S40x8x2048) (k0_off2 k) S1x8x2048.size (k0_off2_inb k), k0_pay14 v209 (carry v209 x k.val)⟩ :: marks v209 x k.val :=
  dif_pos k.isLt

theorem carry_zero (v209 : IVec S8x2048 32) (x : FVec F S8x2048 .f32) : carry v209 x 0 = x := rfl

set_option warn.classDefReducibility false in
/-- The loop by its invariant: before round `k` the marks' buffer holds the slabs of the rounds before, and the
    carried value is the table before the round. -/
@[sl_loop] def loopInv (𝒱 : Variants) (c : Dev nD) (bd : Option 𝒱.V) (E : Set ℕ) (i : grid0.Coords) (arg2 : Memref sig .tc .vmem S40x2048 .f32) (harg2 : arg2.IsWhole) (arg3 : Memref sig .tc .hbm S4x2048x16x64 .f32) (harg3 : arg3.IsWhole) (arg4 : Memref sig .tc .hbm S4x2048x16x64 .f32) (harg4 : arg4.IsWhole) (arg5 : Memref sig .tc .hbm S4x2048x16x64 .f32) (harg5 : arg5.IsWhole) (arg6 : Memref sig .tc .hbm S4x2048x16x64 .f32) (harg6 : arg6.IsWhole) (arg7 : Memref sig .tc .vmem S8x2048x64 .f32) (harg7 : arg7.IsWhole) (arg8 : Memref sig .tc .vmem S8x2048x64 .f32) (harg8 : arg8.IsWhole) (arg9 : Memref sig .tc .vmem S8x2048x64 .f32) (harg9 : arg9.IsWhole) (arg10 : Memref sig .tc .vmem S8x2048x64 .f32) (harg10 : arg10.IsWhole) (arg11 : Memref sig .tc .vmem S40x8x2048 .f32) (harg11 : arg11.IsWhole) (arg12 : DmaSems sig S_) (arg13 : DmaSems sig S_) (v209 : IVec S8x2048 32) (v322 : FVec F S8x2048 .f32) (c0_i32_328 : BitVec 32) (G : BufTy.Contents (Elt F) arg11.view.ty) (init : FVec F S8x2048 .f32) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 arg13 v209 v322 c0_i32_328 init where
  inv k acc := iprop((∃ f, (arg11.view.loc (c : Thread nD τ) ↦[arg11.view.set]{fullShare} f) ∗ ⌜f = arg11.view.writes (Elt F) G (marks v209 init k)⌝) ∗ ⌜acc = carry v209 init k⌝)
  step k acc := by
    have hk : k.val < 40 := Nat.lt_of_lt_of_le k.isLt k0_t1_abs.2.1
    iintro ⟨⟨%f, HW, %hf⟩, %hacc⟩
    subst hacc
    unfold k0_t1_body
    sl_exec
    sl_step
    isplitl [HW]
    · iexists _; isplitl [HW]; · iexact HW
      ipureintro; rw [marks_succ, hf]; rfl
    ipureintro; rfl

end Cert.KernelIdeal.Hand

end
-- ==== Proof.KernelIdeal.Run.lean ====
/-
  One grid point's body, run from arbitrary contents. The run hands over the table's staging buffer, the three arrays
  read, the result, the five scratch buffers and the two semaphores, and gets back the same, the result at contents the
  run computes (`bodyRun … |>.1`). The twenty-four transfers in are one batch on the first semaphore, the eight transfers
  out one batch on the second; the loop of picks is stepped by its invariant (Loop.lean).
-/
module

public import proofs.«01_k».proof.Proof.KernelIdeal.Loop
public import proofs.«01_k».proof.Proof.Gen.KernelIdeal.Launch
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Contents of the buffer a memref names, and that buffer whole at such contents. -/
abbrev Cts {sp : Space} {S : Shape} {e : EltTy} (F : FTy → Type) (c : Dev nD) (M : Memref sig .tc sp S e) : Type := Buf (Elt F) (M.view.loc (c : Thread nD τ))
abbrev pt {sp : Space} {S : Shape} {e : EltTy} (c : Dev nD) (M : Memref sig .tc sp S e) (f : Cts F c M) : sProp 𝕄 :=
  M.view.loc (c : Thread nD τ) ↦{fullShare} f

/-- The queries, the keys, the values, the result, and the scratch buffers: a group's queries, keys, values, result
    slabs, and the one-hot marks of the picks. -/
abbrev aQ : Memref sig .tc .hbm S4x2048x16x64 .f32 := Memref.whole main_arg0
abbrev aK : Memref sig .tc .hbm S4x2048x16x64 .f32 := Memref.whole main_arg1
abbrev aV : Memref sig .tc .hbm S4x2048x16x64 .f32 := Memref.whole main_arg2
abbrev aO : Memref sig .tc .hbm S4x2048x16x64 .f32 := Memref.whole main_v0
abbrev bQ : Memref sig .tc .vmem S8x2048x64 .f32 := Memref.whole cc0_scratch0
abbrev bK : Memref sig .tc .vmem S8x2048x64 .f32 := Memref.whole cc0_scratch1
abbrev bV : Memref sig .tc .vmem S8x2048x64 .f32 := Memref.whole cc0_scratch2
abbrev bO : Memref sig .tc .vmem S8x2048x64 .f32 := Memref.whole cc0_scratch3
abbrev bM : Memref sig .tc .vmem S40x8x2048 .f32 := Memref.whole cc0_scratch4

set_option maxHeartbeats 1000000 in
/-- THE BODY'S RUN: what the result holds afterwards, with the proof that the body ends there. -/
noncomputable def bodyRun (c : Dev nD) (i : grid0.Coords) (arg2 : Memref sig .tc .vmem S40x2048 .f32) (harg2 : arg2.IsWhole)
    (fs : Cts F c arg2) (q : Cts F c aQ) (k : Cts F c aK) (v : Cts F c aV) (o : Cts F c aO)
    (f7 : Cts F c bQ) (f8 : Cts F c bK) (f9 : Cts F c bV) (f10 : Cts F c bO) (f11 : Cts F c bM) :
    { G : Cts F c aO //
      ∀ (W : Waits sig Unit) (K : PUnit → sProp 𝕄),
        iprop((arg2.view.loc (c : Thread nD τ) ↦[arg2.view.set]{fullShare} fs)
            ∗ pt c aQ q ∗ pt c aK k ∗ pt c aV v ∗ pt c aO o
            ∗ pt c bQ f7 ∗ pt c bK f8 ∗ pt c bV f9 ∗ pt c bO f10 ∗ (bM.view.loc (c : Thread nD τ) ↦[bM.view.set]{fullShare} f11)
            ∗ semVal ((c : Thread nD τ), SemLoc.dma 1) 0 ∗ semVal ((c : Thread nD τ), SemLoc.dma 2) 0
            ∗ owes (c : Thread nD τ) 0 W
            ∗ (iprop((arg2.view.loc (c : Thread nD τ) ↦[arg2.view.set]{fullShare} fs)
                ∗ pt c aQ q ∗ pt c aK k ∗ pt c aV v ∗ pt c aO G
                ∗ (∃ f, pt c bQ f) ∗ (∃ f, pt c bK f) ∗ (∃ f, pt c bV f) ∗ (∃ f, pt c bO f) ∗ (∃ f, bM.view.loc (c : Thread nD τ) ↦[bM.view.set]{fullShare} f)
                ∗ semVal ((c : Thread nD τ), SemLoc.dma 1) 0 ∗ semVal ((c : Thread nD τ), SemLoc.dma 2) 0
                ∗ (∃ W', owes (c : Thread nD τ) 0 W')) -∗ K ⟨⟩))
          ⊢ wp frame (wpE (defs₀ (F := F)) Variants.none c none) Set.univ
              (cc0_body i arg2 harg2 aQ (Memref.isWhole_whole _) aK (Memref.isWhole_whole _) aV (Memref.isWhole_whole _) aO (Memref.isWhole_whole _)
                bQ (Memref.isWhole_whole _) bK (Memref.isWhole_whole _) bV (Memref.isWhole_whole _) bO (Memref.isWhole_whole _) bM (Memref.isWhole_whole _)
                cc0_scratch5 cc0_scratch6) K } := by
  have B1 : Transfers.BatchOf (c : Thread nD τ) (SemLoc.dma 1 : SemLoc sig) 24 (windows := true) := trivial
  have B2 : Transfers.BatchOf (c : Thread nD τ) (SemLoc.dma 2 : SemLoc sig) 8 (windows := true) := trivial
  refine ⟨?_, fun W K => ?run⟩
  case run =>
    simp only [cc0_body_eq_skeleton]; unfold cc0_body_skel
    iintro ⟨Hs, Hq, Hk, Hv, Ho, H7, H8, H9, H10, H11, Hm1, Hm2, HW, HK⟩
    sl_exec_parts
    sl_step
    iapply HK
    isplitl [Hs]
    · iexact Hs
    isplitl [Hq]; · iexact Hq
    isplitl [Hk]; · iexact Hk
    isplitl [Hv]; · iexact Hv
    isplitl [Ho]; · iexact Ho
    isplitl [H7]; · iexists _; iexact H7
    isplitl [H8]; · iexists _; iexact H8
    isplitl [H9]; · iexists _; iexact H9
    isplitl [H10]; · iexists _; iexact H10
    isplitl [H11]; · iexists _; iexact H11
    isplitl [Hm1]; · iexact Hm1
    isplitl [Hm2]; · iexact Hm2
    iexists _; iexact HW

end Cert.KernelIdeal.Hand

end
-- ==== Proof.KernelIdeal.Launch.lean ====
/-
  The launch. The pipeline's invariant holds the scratch buffers at any contents, the two semaphores at zero, the
  three arrays the body reads at their contents before the region, and the result at contents of which a statement
  `P c t` holds before point `t`; `P` is a parameter with one obligation, that the body's run carries it from a point
  to the next (`StepsOf`). At the statement that is always true this is the frame.
-/
module

public import proofs.«01_k».proof.Proof.KernelIdeal.Run
public import proofs.«01_k».proof.Proof.Gen.KernelIdeal.Frame
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the body reads by its own transfers, and the one it writes by them. -/
def H0 : Finset (Ref sig .tc) := {main_arg0, main_arg1, main_arg2}
def R0 : Finset (Ref sig .tc) := {main_v0}
theorem H0_sub : H0 ⊆ Pipeline.restRefs sig spec0 := by decide
theorem R0_sub : R0 ⊆ Pipeline.restRefs sig spec0 \ H0 := by decide

/-- The body's two semaphores. -/
abbrev osem0 : Fin 2 → SemLoc sig := fun j => (![SemLoc.dma 1, SemLoc.dma 2] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0) := by
  rw [Pipeline.ownSems0_eq_of_list c osem0 [0, 1] (by decide) (by decide)]; rfl
theorem readPts_eq (c : Dev nD) :
    (bigSep H0 (fun b => ((c : Thread nD τ).loc b) ↦{fullShare} V m c b) : sProp 𝕄)
      = iprop(pt c aQ (V m c main_arg0) ∗ pt c aK (V m c main_arg1) ∗ pt c aV (V m c main_arg2)) := by
  rw [BI.bigSep_eq_bigSepL_of_eq [main_arg0, main_arg1, main_arg2] (by decide) (by decide)]; rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The statement of the result the invariant carries. -/
abbrev Carried (F : FTy → Type) : Type := (c : Dev nD) → ℕ → Cts F c aO → Prop

/-- The body's run carries `P` from every point to the next, whatever the scratch buffers hold, the table's staging
    buffer holding its block. -/
def StepsOf (P : Carried F) : Prop :=
  ∀ (c : Dev nD) (t : Fin cfg0.N) (fs : Cts F c (win0_0.stage (cfg0.slots t 0))) (o : Cts F c aO)
    (f7 : Cts F c bQ) (f8 : Cts F c bK) (f9 : Cts F c bV) (f10 : Cts F c bO) (f11 : Cts F c bM),
    (win0_0.stage (cfg0.slots t 0)).view.read (Elt F) fs = iblk m c 0 t → P c t.val o →
    P c (t.val + 1) (bodyRun c (grid0.coords t) (win0_0.stage (cfg0.slots t 0)) (hstage0_0 ((cfg0.slots t 0).cast nbuf0_0)) fs
      (V m c main_arg0) (V m c main_arg1) (V m c main_arg2) o f7 f8 f9 f10 f11).1

/-- The proof data: the table's block stays in its staging buffer, and the invariant above. -/
def dats (P : Carried F) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := iprop(Pipeline.ΦD osem0 spec0 H0 (V m) c ∗ ∃ o, ⌜P c t.val o⌝ ∗ pt c aO o)
  q _ := fullShare
  owed _ := 0

variable (P : Carried F)

theorem A_eq (c : Dev nD) (w : Fin cfg0.W) : (dats m P 0 c).A w = V m c (Pipeline.arrRef spec0 w) := by
  dsimp only [dats]
theorem after0_0 (c : Dev nD) (t : Fin cfg0.N) : (dats m P 0 c).after 0 t = iblk m c 0 t := by dsimp only [dats]
theorem before0_0 (c : Dev nD) (t : Fin cfg0.N) (d) : (dats m P 0 c).before 0 t d = iblk m c 0 t :=
  ((dats m P 0 c).before_in_eq_fetched 0 rfl (fun _ => rfl) (fun _ _ _ => rfl) (fun t => by
    rw [after0_0]; unfold Dat.blockOf iblk; rw [A_eq]; try rfl) t d).trans
    (by unfold Dat.fetched Dat.blockOf iblk; rw [A_eq]; try rfl)

theorem Phi_eq (c : Dev nD) :
    (Pipeline.ΦD osem0 spec0 H0 (V m) c : sProp 𝕄)
      = iprop(iprop((∃ f, pt c bQ f) ∗ (∃ f, pt c bK f) ∗ (∃ f, pt c bV f) ∗ (∃ f, pt c bO f)
            ∗ (∃ f, bM.view.loc c ↦[bM.view.set]{fullShare} f))
          ∗ (∃ r, prngReg c r)
          ∗ iprop(semVal ((c : Thread nD τ), SemLoc.dma 1) 0 ∗ semVal ((c : Thread nD τ), SemLoc.dma 2) 0)
          ∗ iprop(pt c aQ (V m c main_arg0) ∗ pt c aK (V m c main_arg1) ∗ pt c aV (V m c main_arg2))) := by
  rw [Pipeline.ΦD_eq, scopedRest0_eq, ownSems00_eq, readPts_eq, show bM.view.set = Finset.univ from View.set_whole _]

def bodyPre (c : Dev nD) (t : Fin cfg0.N) : sProp 𝕄 :=
  iprop((dats m P 0 c).Φ t.castSucc ∗ (dats m P 0 c).owesAt () t.castSucc
    ∗ (∃ d, owns (c : Thread nD τ) (win0_0.stage (cfg0.slots t 0)) fullShare ((dats m P 0 c).before 0 t d)))
def bodyPost (c : Dev nD) (t : Fin cfg0.N) : sProp 𝕄 :=
  iprop((dats m P 0 c).Φ t.succ ∗ (dats m P 0 c).owesAt () t.succ
    ∗ owns (c : Thread nD τ) (win0_0.stage (cfg0.slots t 0)) fullShare ((dats m P 0 c).after 0 t))

theorem sound_body (hP : StepsOf m P) (c : Dev nD) (t : Fin cfg0.N) :
    bodyPre m P c t ⊢ wp frame (wpE (defs₀ (F := F)) Variants.none c none) Set.univ (bodyAt0 t) (fun _ => bodyPost m P c t) := by
  unfold bodyPre bodyPost bodyAt0
  rw [show (dats m P 0 c).Φ t.succ = iprop(Pipeline.ΦD osem0 spec0 H0 (V m) c ∗ ∃ o, ⌜P c (t.val + 1) o⌝ ∗ pt c aO o) from rfl, after0_0]
  rw [show (dats m P 0 c).Φ t.castSucc = iprop(Pipeline.ΦD osem0 spec0 H0 (V m) c ∗ ∃ o, ⌜P c t.val o⌝ ∗ pt c aO o) from rfl, Phi_eq]
  simp only [before0_0]
  unfold Dat.owesAt Pipeline.owesWithin
  rw [show (dats m P 0 c).owed t.castSucc = 0 from rfl, show (dats m P 0 c).owed t.succ = 0 from rfl]
  unfold owns
  iintro ⟨⟨⟨⟨⟨%f7, H7⟩, ⟨%f8, H8⟩, ⟨%f9, H9⟩, ⟨%f10, H10⟩, ⟨%f11, H11⟩⟩, Hg, ⟨Hm1, Hm2⟩, ⟨Hq, Hk, Hv⟩⟩, ⟨%o, %ho, Ho⟩⟩, ⟨%W, -, HW⟩, ⟨%d, %fs, %hfs, Hs⟩⟩
  have hnext := hP c t fs o f7 f8 f9 f10 f11 hfs ho
  iapply ((bodyRun c (grid0.coords t) (win0_0.stage (cfg0.slots t 0)) (hstage0_0 ((cfg0.slots t 0).cast nbuf0_0)) fs
      (V m c main_arg0) (V m c main_arg1) (V m c main_arg2) o f7 f8 f9 f10 f11).2 W _)
  isplitl [Hs]; · iexact Hs
  isplitl [Hq]; · iexact Hq
  isplitl [Hk]; · iexact Hk
  isplitl [Hv]; · iexact Hv
  isplitl [Ho]; · iexact Ho
  isplitl [H7]; · iexact H7
  isplitl [H8]; · iexact H8
  isplitl [H9]; · iexact H9
  isplitl [H10]; · iexact H10
  isplitl [H11]; · iexact H11
  isplitl [Hm1]; · iexact Hm1
  isplitl [Hm2]; · iexact Hm2
  isplitl [HW]; · iexact HW
  iintro ⟨Hs, Hq, Hk, Hv, Ho, H7, H8, H9, H10, H11, Hm1, Hm2, ⟨%W', HW'⟩⟩
  isplitl [Hq Hk Hv Ho H7 H8 H9 H10 H11 Hm1 Hm2 Hg]
  · isplitr [Ho]
    · isplitl [H7 H8 H9 H10 H11]
      · isplitl [H7]; · iexact H7
        isplitl [H8]; · iexact H8
        isplitl [H9]; · iexact H9
        isplitl [H10]; · iexact H10
        iexact H11
      isplitl [Hg]; · iexact Hg
      isplitl [Hm1 Hm2]
      · isplitl [Hm1]; · iexact Hm1
        iexact Hm2
      isplitl [Hq]; · iexact Hq
      isplitl [Hk]; · iexact Hk
      iexact Hv
    iexists _; isplitr; swap; · iexact Ho
    ipureintro; exact hnext
  isplitl [HW']
  · iexists W'; isplitr; · ipureintro; exact fun _ _ => Or.inl trivial
    iexact HW'
  iexists fs; isplitr; swap; · iexact Hs
  ipureintro; exact hfs

theorem defs₀_row (t : Fin cfg0.N) :
    defs₀ (F := F) .tc cfg0.body (cfg0.bodyArgs t (cfg0.slots t)) = bodyAt0 t := by
  unfold defs₀; rw [Defs.onTc_tc]

theorem body_obligation (hP : StepsOf m P) (c : Dev nD) : BodyObligation (dats (F := F) m P 0 c) (defs₀ (F := F)) Variants.none () Set.univ := fun t => by
  rw [bigSep_W0, bigSep_W0, defs₀_row]
  exact triple_restated (sound_body m P hP c t) rfl .rfl fun _ => .rfl

/-- The run, the result at the contents `G` the statement leaves after the last point. -/
theorem run_value (hP : StepsOf m P) (G : (c : Dev nD) → Cts F c aO) (h0 : ∀ c, P c 0 (V m c main_v0))
    (hN : ∀ c o, P c cfg0.N o → o = G c) :
    θ_run defs (onTc (τ := τ) (main (F := F))) (s₀ m ρ)
      (fun r => Pipeline.FramePostRG cfgs (dats m P) 0 R0 (V m) (fun c => Function.update (V m c) main_v0 (G c)) r ∧ r.2.sem = fun _ => 0) :=
  Pipeline.θ_run_frame_dmaRG (Q' := _) cfgs (dats m P) (0 : Fin 1) launch0 osem0 defs₀ Variants.none ownSemFacts0 H0 R0 H0_sub R0_sub m ρ main
    (hbody := fun c => (body_obligation m P hP c).loose) (hshare := fun c => (dats m P 0 c).share_full fun _ => rfl)
    (howed := fun _ _ => rfl) (V := V m) (hmain := hmain m Variants.none) (hA := A_eq m P)
    (G := fun c => Function.update (V m c) main_v0 (G c))
    (hin := fun c => by
      rw [show (dats m P 0 c).Φ 0 = iprop(Pipeline.ΦD osem0 spec0 H0 (V m) c ∗ ∃ o, ⌜P c 0 o⌝ ∗ pt c aO o) from rfl]
      unfold Pipeline.ΦDRG
      rw [show (Pipeline.routed R0 c (V m c) : sProp 𝕄) = pt c aO (V m c main_v0) from Pipeline.routed_singleton main_v0 c (V m c)]
      iintro ⟨HD, Ho⟩
      isplitl [HD]; · iexact HD
      iexists _; isplitr; swap; · iexact Ho
      ipureintro; exact h0 c)
    (hout := fun c => by
      rw [show (dats m P 0 c).Φ (Fin.last cfg0.N) = iprop(Pipeline.ΦD osem0 spec0 H0 (V m) c ∗ ∃ o, ⌜P c cfg0.N o⌝ ∗ pt c aO o) from rfl]
      unfold Pipeline.ΦDRG
      rw [show (Pipeline.routed R0 c (Function.update (V m c) main_v0 (G c)) : sProp 𝕄) = pt c aO (G c) from
        (Pipeline.routed_singleton main_v0 c _).trans (by rw [Function.update_self])]
      iintro ⟨HD, ⟨%o, %ho, Ho⟩⟩
      isplitl [HD]; · iexact HD
      rw [← hN c o ho]; iexact Ho)

/-- The run, the result at some contents. -/
theorem run_main :
    θ_run defs (onTc (τ := τ) (main (F := F))) (s₀ m ρ)
      (fun r => Pipeline.FramePostR cfgs (dats m fun _ _ _ => True) 0 R0 (V m) r ∧ r.2.sem = fun _ => 0) :=
  Pipeline.θ_run_frame_dmaR (Q' := _) cfgs (dats m fun _ _ _ => True) (0 : Fin 1) launch0 osem0 defs₀ Variants.none ownSemFacts0 H0 R0 H0_sub R0_sub m ρ main
    (hbody := fun c => (body_obligation m _ (fun _ _ _ _ _ _ _ _ _ _ _ => trivial) c).loose) (hshare := fun c => (dats m _ 0 c).share_full fun _ => rfl)
    (howed := fun _ _ => rfl) (V := V m) (hmain := hmain m Variants.none) (hA := A_eq m _)
    (hin := fun c => by
      rw [show (dats m (fun _ _ _ => True) 0 c).Φ 0 = iprop(Pipeline.ΦD osem0 spec0 H0 (V m) c ∗ ∃ o, ⌜True⌝ ∗ pt c aO o) from rfl]
      unfold Pipeline.ΦDR Pipeline.owned R0
      rw [BI.bigSep_singleton]
      iintro ⟨HD, ⟨%o, Ho⟩⟩
      isplitl [HD]; · iexact HD
      iexists o; isplitr; swap; · iexact Ho
      ipureintro; trivial)
    (hout := fun c => by
      rw [show (dats m (fun _ _ _ => True) 0 c).Φ (Fin.last cfg0.N) = iprop(Pipeline.ΦD osem0 spec0 H0 (V m) c ∗ ∃ o, ⌜True⌝ ∗ pt c aO o) from rfl]
      unfold Pipeline.ΦDR Pipeline.owned R0
      rw [BI.bigSep_singleton]
      iintro ⟨HD, ⟨%o, -, Ho⟩⟩
      isplitl [HD]; · iexact HD
      iexists o; iexact Ho)

/-- An argument array ends as it was launched, from either run's post. -/
theorem kept {P : Carried F} {r : PUnit × MemSt nD τ sig (Elt F)} (h : Pipeline.FramePostR cfgs (dats m P) 0 R0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Finset.mem_sdiff.mpr ⟨Pipeline.mem_restRefs_of main_arg0 (by decide) (by decide), by decide⟩)).trans (V_main_arg0 m c),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c),
    ((h c).2 main_arg3 (Finset.mem_sdiff.mpr ⟨Pipeline.mem_restRefs_of main_arg3 (by decide) (by decide), by decide⟩)).trans (V_main_arg3 m c)⟩

/-- THE FRAME: every run ends, the argument arrays as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept m h.1 c, h.2⟩) (run_main m ρ)

end Cert.KernelIdeal.Hand

end
-- ==== Proof.Math.Picks.lean ====
/-
  The forty places a table of extended reals picks: the greatest entries first, equal ones in the order of their
  places. `pick` takes them from the sort of the places; the lemmas say that the same places come out of forty rounds,
  each of which takes the first place of the greatest entry left and lowers that entry to minus infinity.
-/
module

public import Idealize.ShloMosaic.Lib.SortPrefix
public import Idealize.ShloMosaic.Lib.SortFacts
public import Mathlib.Data.EReal.Basic

@[expose] public section

namespace ProbSparse

open Idealize.ShloMosaic

/-- One place is before another: its entry is greater, or the entries are equal and it comes first. -/
noncomputable def before (m : Fin 2048 → EReal) (a b : Fin 2048) : Bool :=
  decide (m b < m a) || (decide (m a = m b) && decide (a < b))

theorem before_strict (m : Fin 2048 → EReal) : StrictTotalBefore (before m) :=
  StrictTotalBefore.of_key_then_position (fun x y : EReal => decide (y < x)) m (fun a => by simp)
    (fun a b c hab hbc => by simp only [decide_eq_true_eq] at *; exact lt_trans hbc hab)
    (fun a b => by
      simp only [decide_eq_true_eq]
      rcases lt_trichotomy a b with h | h | h
      · exact Or.inr (Or.inr h)
      · exact Or.inr (Or.inl h)
      · exact Or.inl h)

/-- The `u`-th place picked. -/
noncomputable def pick (m : Fin 2048 → EReal) (u : Fin 40) : Fin 2048 := sortedFrom (before m) (u.castLE (by omega))

theorem pick_injective (m : Fin 2048 → EReal) : Function.Injective (pick m) := fun a b h =>
  Fin.castLE_injective _ (sortedFrom_injective (before m) h)

/-- A sort puts no later place before an earlier one. -/
theorem sortedFrom_ordered (m : Fin 2048 → EReal) {i j : Fin 2048} (h : i < j) :
    before m (sortedFrom (before m) j) (sortedFrom (before m) i) = false := by
  have hs := (before_strict m).sorted_stableSort (List.finRange 2048)
  rw [List.pairwise_iff_getElem] at hs
  exact hs i.val j.val _ _ h

/-- The table before round `k`: the entries of the places picked before are minus infinity. -/
noncomputable def tab (m : Fin 2048 → EReal) (k : ℕ) (l : Fin 2048) : EReal :=
  open Classical in if ∃ j : Fin 40, j.val < k ∧ pick m j = l then ⊥ else m l

theorem tab_zero (m : Fin 2048 → EReal) (l : Fin 2048) : tab m 0 l = m l := by simp [tab]

theorem tab_succ (m : Fin 2048 → EReal) (k : Fin 40) (l : Fin 2048) :
    tab m (k.val + 1) l = if l = pick m k then ⊥ else tab m k.val l := by
  unfold tab
  by_cases h : l = pick m k
  · rw [if_pos h, if_pos ⟨k, Nat.lt_succ_self _, h.symm⟩]
  · rw [if_neg h]
    congr 1
    refine propext ⟨fun ⟨j, hj, e⟩ => ⟨j, ?_, e⟩, fun ⟨j, hj, e⟩ => ⟨j, by omega, e⟩⟩
    rcases Nat.lt_succ_iff_lt_or_eq.mp hj with h' | h'
    · exact h'
    · exact absurd (by rw [← e, Fin.ext h']) h

theorem tab_pick (m : Fin 2048 → EReal) (k : Fin 40) : tab m k.val (pick m k) = m (pick m k) := by
  unfold tab
  rw [if_neg]
  rintro ⟨j, hj, e⟩
  exact absurd (congrArg Fin.val (pick_injective m e)) (by omega)

/-- A place not picked before round `k` is round `k`'s place or comes after it. -/
theorem before_pick (m : Fin 2048 → EReal) (k : Fin 40) (l : Fin 2048) (h : ¬ ∃ j : Fin 40, j.val < k.val ∧ pick m j = l) :
    before m l (pick m k) = false := by
  obtain ⟨i, rfl⟩ := sortedFrom_surjective (before m) l
  rcases lt_trichotomy i.val k.val with hi | hi | hi
  · exact absurd ⟨⟨i.val, by omega⟩, hi, rfl⟩ h
  · have : i = k.castLE (by omega) := Fin.ext hi
    rw [this]
    exact (before_strict m).irrefl _
  · exact sortedFrom_ordered m (i := k.castLE (by omega)) (j := i) hi

/-- Round `k`'s place holds the greatest entry of the table before the round. -/
theorem tab_le (m : Fin 2048 → EReal) (k : Fin 40) (l : Fin 2048) : tab m k.val l ≤ tab m k.val (pick m k) := by
  rw [tab_pick]
  by_cases h : ∃ j : Fin 40, j.val < k.val ∧ pick m j = l
  · rw [tab, if_pos h]; exact bot_le
  · rw [tab, if_neg h]
    have := before_pick m k l h
    simp only [before, Bool.or_eq_false_iff, decide_eq_false_iff_not, not_lt] at this
    exact this.1

/-- A place that holds the greatest entry is not before round `k`'s place, when no entry is minus infinity. -/
theorem pick_le (m : Fin 2048 → EReal) (hm : ∀ l, m l ≠ ⊥) (k : Fin 40) (l : Fin 2048)
    (hl : tab m k.val (pick m k) ≤ tab m k.val l) : pick m k ≤ l := by
  rw [tab_pick] at hl
  by_cases h : ∃ j : Fin 40, j.val < k.val ∧ pick m j = l
  · rw [tab, if_pos h] at hl
    exact absurd (le_bot_iff.mp hl) (hm _)
  · rw [tab, if_neg h] at hl
    have := before_pick m k l h
    simp only [before, Bool.or_eq_false_iff, Bool.and_eq_false_iff, decide_eq_false_iff_not, not_lt] at this
    rcases this.2 with h' | h'
    · exact absurd (le_antisymm this.1 hl) h'
    · exact h'

/-! ### A stable sort by the entries alone -/

theorem insertBefore_stable (m : Fin 2048 → EReal) (a : Fin 2048) (l : List (Fin 2048)) (h : ∀ b ∈ l, a < b) :
    insertBefore (fun x y => decide (m y < m x)) a l = insertBefore (before m) a l := by
  refine insertBefore_congr _ _ a l fun b hb => ?_
  have : ¬ b < a := not_lt.mpr (h b hb).le
  simp [before, this]

theorem stableSort_stable (m : Fin 2048 → EReal) (l : List (Fin 2048)) (h : l.Pairwise (· < ·)) :
    stableSort (fun x y => decide (m y < m x)) l = stableSort (before m) l := by
  induction l with
  | nil => rfl
  | cons a l ih =>
    rw [List.pairwise_cons] at h
    unfold stableSort
    rw [ih h.2]
    exact insertBefore_stable m a _ fun b hb => h.1 b ((perm_stableSort _ l).mem_iff.mp hb)

theorem sortedFrom_of_eq {n : ℕ} (R R' : Fin n → Fin n → Bool) (h : stableSort R (List.finRange n) = stableSort R' (List.finRange n))
    (k : Fin n) : sortedFrom R k = sortedFrom R' k := by
  unfold sortedFrom sortPositions
  simp only [List.get_eq_getElem, h]
  rfl

/-- Sorting the places by the entries alone, stably, is sorting them by the entry and then the place. -/
theorem sortedFrom_stable (m : Fin 2048 → EReal) (k : Fin 2048) :
    sortedFrom (fun x y => decide (m y < m x)) k = sortedFrom (before m) k :=
  sortedFrom_of_eq _ _ (stableSort_stable m (List.finRange 2048) (List.sortedLT_finRange 2048).pairwise) k

theorem pick_eq (m : Fin 2048 → EReal) (u : Fin 40) : pick m u = sortedFrom (before m) (u.castLE (by decide)) := rfl

attribute [irreducible] pick tab

end ProbSparse

end
-- ==== Proof.Math.Spec.lean ====
/-
  One head's attention in plain mathematics over the extended reals: the measure of every query against the forty
  sampled keys, the forty queries picked by it, their softmax attention under the causal mask, and the result: an
  attended row where the query is picked, the running sum of the values elsewhere.
-/
module

public import proofs.«01_k».proof.Proof.Math.Picks
public import Idealize.ShloMosaic.PureOps.Ideal

@[expose] public section

noncomputable section

namespace ProbSparse

open Idealize.ShloMosaic

/-- One head's queries, keys or values: 2048 rows of 64. -/
abbrev Rows := Fin 2048 → Fin 64 → EReal

/-- The sampled key's place: every twenty-fourth, from the end. -/
def place (i : Fin 40) : Fin 2048 := ⟨2024 - 24 * i.val, by omega⟩

/-- A query against a sampled key's squares. -/
def dots (Q K : Rows) (l : Fin 2048) (i : Fin 40) : EReal := ∑ e, K (place i) e * K (place i) e * Q l e

/-- A query's measure: the greatest of its sampled dots less their sum over 2048. -/
def measure (Q K : Rows) (l : Fin 2048) : EReal :=
  Finset.univ.fold max ⊥ (dots Q K l) - (∑ i, dots Q K l i) * ((1 / 2048 : ℝ) : EReal)

/-- A query's scaled dots with the keys up to its place `p`; minus infinity past it. -/
def score (Q K : Rows) (p l : Fin 2048) : EReal :=
  if l ≤ p then (∑ e, Q p e * K l e) * ((1 / 8 : ℝ) : EReal) else ⊥

/-- The exponentials of the scores less the greatest. -/
def weight (Q K : Rows) (p l : Fin 2048) : EReal := Ideal.exp (score Q K p l - Finset.univ.fold max ⊥ (score Q K p))

/-- A picked query's attended row. -/
def attend (Q K V : Rows) (p : Fin 2048) (e : Fin 64) : EReal :=
  ∑ l, Ideal.div (weight Q K p l) (∑ l', weight Q K p l') * V l e

/-- A column of the values as a sequence, zero past its end. -/
def column (V : Rows) (e : Fin 64) (k : ℕ) : EReal := if h : k < 2048 then V ⟨k, h⟩ e else 0

/-- The running sum of the values. -/
def running (V : Rows) (l : Fin 2048) (e : Fin 64) : EReal := ∑ k ∈ Finset.range (l.val + 1), column V e k

/-- The head's result. -/
def result (Q K V : Rows) (l : Fin 2048) (e : Fin 64) : EReal :=
  open Classical in if ∃ u, pick (measure Q K) u = l then attend Q K V l e else running V l e

/-! ### Sums over marks, prefixes -/

theorem sum_mark {n : ℕ} (p : Fin n) (f : Fin n → EReal) : ∑ x, (if p = x then (1 : EReal) else 0) * f x = f p := by
  simp [ite_mul]

theorem sum_marks_of (m : Fin 2048 → EReal) (f : Fin 40 → EReal) (u : Fin 40) :
    ∑ x, (if pick m x = pick m u then (1 : EReal) else 0) * f x = f u := by
  simp [ite_mul, (pick_injective m).eq_iff]

theorem sum_marks_of_not (m : Fin 2048 → EReal) (f : Fin 40 → EReal) (l : Fin 2048) (h : ¬ ∃ u, pick m u = l) :
    ∑ x, (if pick m x = l then (1 : EReal) else 0) * f x = 0 := by
  refine Finset.sum_eq_zero fun x _ => ?_
  rw [if_neg fun e => h ⟨x, e⟩, zero_mul]

/-- The sum of the terms up to `r`. -/
theorem sum_upto {n : ℕ} (r : ℕ) (hr : r < n) (f : ℕ → EReal) :
    (∑ k : Fin n, if k.val ≤ r then f k.val else 0) = ∑ k ∈ Finset.range (r + 1), f k := by
  rw [Fin.sum_univ_eq_sum_range (fun k => if k ≤ r then f k else 0) n]
  symm
  rw [← Finset.sum_subset (Finset.range_subset_range.mpr (by omega : r + 1 ≤ n))
    (f := fun k => if k ≤ r then f k else 0)]
  · refine Finset.sum_congr rfl fun k hk => ?_
    rw [if_pos (by simpa [Nat.lt_succ_iff] using hk)]
  · intro k _ hk
    exact if_neg (by simpa [Nat.lt_succ_iff] using hk)

/-- The running sum a chunk further: the chunk's own prefix and the sum up to the chunk. -/
theorem sum_chunk (f : ℕ → EReal) (a r : ℕ) :
    ∑ k ∈ Finset.range (a + r + 1), f k = (∑ k ∈ Finset.range (r + 1), f (a + k)) + ∑ k ∈ Finset.range a, f k := by
  rw [add_assoc, Finset.sum_range_add, add_comm]

/-- The result from the marks: the running sum kept where no mark is, the marked query's row added. -/
theorem result_of_marks (Q K V : Rows) (l : Fin 2048) (e : Fin 64) :
    running V l e * (1 - ∑ u, if pick (measure Q K) u = l then (1 : EReal) else 0)
      + ∑ u, (if pick (measure Q K) u = l then (1 : EReal) else 0) * attend Q K V (pick (measure Q K) u) e = result Q K V l e := by
  have h1 : (∑ u, if pick (measure Q K) u = l then (1 : EReal) else 0)
      = ∑ u, (if pick (measure Q K) u = l then (1 : EReal) else 0) * 1 :=
    Finset.sum_congr rfl fun _ _ => (mul_one _).symm
  unfold result
  by_cases h : ∃ u, pick (measure Q K) u = l
  · rw [if_pos h]
    obtain ⟨u, rfl⟩ := h
    rw [h1, sum_marks_of _ (fun _ => 1), sum_marks_of _ (fun u => attend Q K V (pick (measure Q K) u) e)]
    have : (1 : EReal) - 1 = 0 := by
      rw [← EReal.coe_one, ← EReal.coe_sub, sub_self, EReal.coe_zero]
    rw [this, mul_zero, zero_add]
  · rw [if_neg h, h1, sum_marks_of_not _ _ _ h, sum_marks_of_not _ _ _ h, sub_zero, mul_one, add_zero]

/-! ### Finite queries and keys measure to no minus infinity -/

/-- Rows of reals. -/
def Finite (R : Rows) : Prop := ∀ l e, R l e ≠ ⊥ ∧ R l e ≠ ⊤

theorem measure_ne_bot {Q K : Rows} (hQ : Finite Q) (hK : Finite K) (l : Fin 2048) : measure Q K l ≠ ⊥ := by
  have hq : ∀ l e, ∃ r : ℝ, Q l e = r := fun l e => ⟨_, (EReal.coe_toReal (hQ l e).2 (hQ l e).1).symm⟩
  have hk : ∀ l e, ∃ r : ℝ, K l e = r := fun l e => ⟨_, (EReal.coe_toReal (hK l e).2 (hK l e).1).symm⟩
  choose q hq using hq
  choose k hk using hk
  have hd : ∀ i, dots Q K l i = ((∑ e, k (place i) e * k (place i) e * q l e : ℝ) : EReal) := fun i => by
    unfold dots
    simp only [hq, hk, ← EReal.coe_mul]
    exact (map_sum (⟨⟨Real.toEReal, rfl⟩, EReal.coe_add⟩ : ℝ →+ EReal) _ _).symm
  have hs : ∃ s : ℝ, (∑ i, dots Q K l i) = s := by
    simp only [hd]
    exact ⟨_, (map_sum (⟨⟨Real.toEReal, rfl⟩, EReal.coe_add⟩ : ℝ →+ EReal) _ _).symm⟩
  obtain ⟨s, hs⟩ := hs
  have hm : Finset.univ.fold max ⊥ (dots Q K l) ≠ ⊥ := by
    have h : dots Q K l 0 ≤ Finset.univ.fold max ⊥ (dots Q K l) :=
      (Finset.le_fold_max _).mpr (Or.inr ⟨0, Finset.mem_univ _, le_rfl⟩)
    rw [hd] at h
    intro e
    rw [e, le_bot_iff] at h
    exact EReal.coe_ne_bot _ h
  unfold measure
  rw [hs, ← EReal.coe_mul]
  intro e
  rw [sub_eq_add_neg, EReal.add_eq_bot_iff] at e
  rcases e with e | e
  · exact hm e
  · rw [← EReal.coe_neg] at e
    exact EReal.coe_ne_bot _ e

end ProbSparse

end

end
-- ==== Proof.KernelIdeal.Head.lean ====
/-
  The body's payloads at the extended reals, read at an index: a round's mark and lowered table, a head's measure row,
  its attended rows, and a chunk of its result.
-/
module

public import proofs.«01_k».proof.Proof.Gen.KernelIdeal.Skeleton
public import proofs.«01_k».proof.Proof.Math.Spec
public import Idealize.ShloMosaic.Lib.Pointwise
public import Idealize.ShloMosaic.Lib.SortNet.Extract
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe
open Idealize.SL.Sem
open ProbSparse Idealize.ShloMosaic.WordCmp

/-! ### The printed constants -/

theorem bits_bot : Ideal.ofBits .f32 0xFF800000#32 = ⊥ := by simp [Ideal.ofBits, Ideal.ieee]

theorem bits_eighth : Ideal.ofBits .f32 0x3E000000#32 = ((1 / 8 : ℝ) : EReal) := by
  simp [Ideal.ofBits, Ideal.ieee]; rw [← EReal.coe_mul]; norm_num

theorem bits_part : Ideal.ofBits .f32 0x3A000000#32 = ((1 / 2048 : ℝ) : EReal) := by
  simp [Ideal.ofBits, Ideal.ieee]; rw [← EReal.coe_mul]; norm_num

/-- A word of a place as a number. -/
theorem float_place (l : Fin 2048) : FloatOps.sitofp (F := Ideal) .f32 (BitVec.ofNat 32 l.val) = ((l.val : ℝ) : EReal) := by
  show (((BitVec.ofNat 32 l.val).toInt : ℝ) : EReal) = _
  rw [BitVec.toInt_eq_toNat_of_lt (by rw [BitVec.toNat_ofNat]; omega), BitVec.toNat_ofNat, Nat.mod_eq_of_lt (by omega)]
  simp

/-- A number of a place as a word. -/
theorem place_float (l : Fin 2048) : FloatOps.fptosi (F := Ideal) (φ := .f32) 32 ((l.val : ℝ) : EReal) = BitVec.ofNat 32 l.val := by
  show Ideal.fptosi 32 _ = _
  rw [Ideal.fptosi, Ideal.toIntClamped_coe, if_pos (by positivity)]
  have : ⌊(l.val : ℝ)⌋ = (l.val : ℤ) := Int.floor_natCast _
  rw [this, min_eq_right (by norm_num <;> omega), max_eq_right (by norm_num <;> omega)]
  exact BitVec.ofInt_natCast _ _

/-- A mask's word as a number. -/
theorem float_mask (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

/-! ### A round -/

/-- The least of the words of the places that hold the greatest entry is that of the round's place. -/
theorem least_word (m : Fin 2048 → EReal) (hm : ∀ l, m l ≠ ⊥) (k : Fin 40) (f : Fin 2048 → EReal) (hf : ∀ l, f l = tab m k.val l) :
    Finset.fold IntOp.minsi (2147483647#32) (fun l : Fin 2048 => if Finset.fold max ⊥ f Finset.univ ≤ f l then BitVec.ofNat 32 l.val else 2048#32) Finset.univ
      = BitVec.ofNat 32 (pick m k).val := by
  have htop : Finset.fold max ⊥ f Finset.univ = tab m k.val (pick m k) := by
    refine le_antisymm ((Finset.fold_max_le _).mpr ⟨bot_le, fun l _ => ?_⟩) ((Finset.le_fold_max _).mpr (Or.inr ⟨pick m k, Finset.mem_univ _, ?_⟩))
    · rw [hf]; exact tab_le m k l
    · rw [hf]
  have hn : ∀ n : ℕ, n ≤ 2048 → (BitVec.ofNat 32 n).toInt = (n : ℤ) := fun n h => by
    rw [BitVec.toInt_eq_toNat_of_lt (by rw [BitVec.toNat_ofNat]; omega), BitVec.toNat_ofNat, Nat.mod_eq_of_lt (by omega)]
  have hle := pick_le m hm k
  rw [htop]
  generalize pick m k = p at hle ⊢
  have hp := hn p.val (by omega)
  have h0 : (2048#32 : BitVec 32).toInt = 2048 := by decide
  have h1 : (2147483647#32 : BitVec 32).toInt = 2147483647 := by decide
  apply BitVec.eq_of_toInt_eq
  rw [← Finset.fold_hom (op' := min) (m := BitVec.toInt) SortNet.toInt_minsi, hp]
  refine le_antisymm ((Finset.fold_min_le _).mpr (Or.inr ⟨p, Finset.mem_univ _, ?_⟩)) ((Finset.le_fold_min _).mpr ⟨?_, fun l _ => ?_⟩)
  · rw [if_pos (by rw [hf]), hp]
  · rw [h1]; omega
  · split
    · next h =>
      rw [hf] at h
      rw [hn l.val (by omega)]
      exact Int.ofNat_le.mpr (Fin.le_def.mp (hle l h))
    · rw [h0]; omega

theorem mark_at (v209 : IVec S8x2048 32) (hv : ∀ j l, v209 (ix2 j l) = BitVec.ofNat 32 l.val) (x : FVec Ideal S8x2048 .f32) (j : Fin 8) (l : Fin 2048)
    (m : Fin 2048 → EReal) (hm : ∀ l, m l ≠ ⊥) (k : Fin 40) (hx : ∀ l, x (ix2 j l) = tab m k.val l) :
    k0_pay13 v209 x (ix2 j l) = BitVec.ofBool (decide (pick m k = l)) := by
  pointwise [k0_pay13]
  simp only [hv, bits_bot]
  rw [least_word m hm k (fun l => x (ix2 j l)) hx, cmpi_eq_ofNat (by omega) (by omega)]
  exact congrArg BitVec.ofBool (decide_eq_decide.mpr ⟨fun h => (Fin.ext h).symm, fun h => congrArg Fin.val h.symm⟩)

/-- A round's stored slab holds a one at the round's place of every row, zero elsewhere. -/
theorem slab_at (v209 : IVec S8x2048 32) (hv : ∀ j l, v209 (ix2 j l) = BitVec.ofNat 32 l.val) (x : FVec Ideal S8x2048 .f32) (j : Fin 8) (l : Fin 2048)
    (m : Fin 2048 → EReal) (hm : ∀ l, m l ≠ ⊥) (k : Fin 40) (hx : ∀ l, x (ix2 j l) = tab m k.val l) :
    k0_pay14 v209 x (ix3 0 j l) = if pick m k = l then (1 : EReal) else 0 := by
  pointwise [k0_pay14]
  rw [mark_at v209 hv x j l m hm k hx]
  exact float_mask _

/-- The table after a round. -/
theorem lower_at (v209 : IVec S8x2048 32) (hv : ∀ j l, v209 (ix2 j l) = BitVec.ofNat 32 l.val) (x : FVec Ideal S8x2048 .f32) (j : Fin 8) (l : Fin 2048)
    (m : Fin 2048 → EReal) (hm : ∀ l, m l ≠ ⊥) (k : Fin 40) (hx : ∀ l, x (ix2 j l) = tab m k.val l) :
    k0_pay15 v209 x (ix2 j l) = tab m (k.val + 1) l := by
  pointwise [k0_pay15]
  rw [mark_at v209 hv x j l m hm k hx, tab_succ, hx]
  by_cases h : pick m k = l
  · rw [if_pos h.symm]; simp [h, Scalar.select, bits_bot]
  · rw [if_neg (Ne.symm h)]; simp [h, Scalar.select]

/-! ### A head's measure row -/

/-- A head's row of measures from the table of sampled places, its queries and its keys. -/
def mrow (t : Vec Ideal S40x2048 .f32) (q k : Vec Ideal S1x2048x64 .f32) : FVec Ideal S1x2048 .f32 :=
  k0_pay4 (F := Ideal) (k0_pay2 (F := Ideal) t q k) (k0_pay3 (F := Ideal) t q k) (Scalar.ofBits .f32 0x3A000000#32)

theorem mrow_at (t : Vec Ideal S40x2048 .f32) (q k : Vec Ideal S1x2048x64 .f32) (Q K : Rows)
    (ht : ∀ i l, t (ix2 i l) = if place i = l then (1 : EReal) else 0)
    (hq : ∀ l e, q (ix3 0 l e) = Q l e) (hk : ∀ l e, k (ix3 0 l e) = K l e) (l : Fin 2048) :
    mrow t q k (ix2 0 l) = measure Q K l := by
  pointwise [mrow, k0_pay4, k0_pay2, k0_pay3, k0_pay1]
  simp only [ht, hq, hk, sum_mark, bits_bot, bits_part]
  rfl

/-! ### A head's attended rows -/

theorem attn_at (q k : Vec Ideal S1x2048x64 .f32) (s : Vec Ideal S40x1x2048 .f32) (Q K : Rows) (p : Fin 40 → Fin 2048)
    (hq : ∀ l e, q (ix3 0 l e) = Q l e) (hk : ∀ l e, k (ix3 0 l e) = K l e)
    (hs : ∀ u l, s (ix3 u 0 l) = if p u = l then (1 : EReal) else 0) (u : Fin 40) (l : Fin 2048) :
    k0_pay20 (F := Ideal) q k s (ix2 u l) = Ideal.div (weight Q K (p u) l) (∑ l', weight Q K (p u) l') := by
  have hsel : ∀ (x : Fin 2048) (a : EReal), Scalar.select (IntOp.cmpi .sle (BitVec.ofNat 32 x.val) (BitVec.ofNat 32 (p u).val)) a ⊥
      = if x ≤ p u then a else ⊥ := fun x a => by
    rw [cmpi_sle_ofNat (by omega) (by omega)]
    by_cases h : x.val ≤ (p u).val
    · rw [if_pos (Fin.le_def.mpr h)]; simp [Scalar.select, h]
    · rw [if_neg (fun h' => h (Fin.le_def.mp h'))]; simp [Scalar.select, h]
  pointwise [k0_pay20, k0_pay19, k0_pay18]
  simp only [hs, hq, hk, sum_mark, float_place, place_float, bits_bot, bits_eighth, hsel]
  rfl

theorem upd_at (a : FVec Ideal S40x2048 .f32) (v : Vec Ideal S1x2048x64 .f32) (u : Fin 40) (e : Fin 64) :
    k0_pay21 (F := Ideal) a v (ix2 u e) = ∑ l, a (ix2 u l) * (v (ix3 0 l e) : EReal) := by
  pointwise [k0_pay21]

/-! ### A chunk -/

/-- A chunk's running sums: its own prefix sums and the row carried into it. -/
def chunkSum (v : FVec Ideal S1x256x64 .f32) (carry : FVec Ideal S1x64 .f32) : FVec Ideal S256x64 .f32 :=
  addf (matmul (φ₁ := .f32) (φ₂ := .f32) dot_S256x256_S256x64_S256x64_1_0_0_1_n_n (some .fp32) (k0_pay16 (F := Ideal))
      (shapeCast S256x64 v shapeCasts_S1x256x64_S256x64) (constant S256x64 .f32 0x00000000#32))
    (broadcastTo S256x64 carry broadcasts_S1x64_S256x64)

theorem chunkSum_at (V : Rows) (c : Fin 8) (v : FVec Ideal S1x256x64 .f32) (carry : FVec Ideal S1x64 .f32)
    (hv : ∀ r e, v (ix3 0 r e) = column V e (256 * c.val + r.val))
    (hc : ∀ e, carry (ix2 0 e) = ∑ k ∈ Finset.range (256 * c.val), column V e k) (r : Fin 256) (e : Fin 64) :
    chunkSum v carry (ix2 r e) = running V ⟨256 * c.val + r.val, by omega⟩ e := by
  have ht : ∀ k : Fin 256, FloatOps.sitofp (F := Ideal) .f32 (BitVec.setWidth 32 (IntOp.cmpi .sge (BitVec.ofNat 32 r.val) (BitVec.ofNat 32 k.val)))
      = if k.val ≤ r.val then (1 : EReal) else 0 := fun k => by
    rw [cmpi_sge_ofNat (by omega) (by omega)]
    exact float_mask _
  pointwise [chunkSum, k0_pay16]
  simp only [ht, hv, hc, running, sum_chunk, ite_mul, one_mul, zero_mul]
  congr 1
  exact sum_upto r.val r.isLt fun k => column V e (256 * c.val + k)

/-- The row carried into the next chunk. -/
theorem carry_at (V : Rows) (c : Fin 8) (cs : FVec Ideal S256x64 .f32)
    (h : ∀ r e, cs (ix2 r e) = running V ⟨256 * c.val + r.val, by omega⟩ e) (e : Fin 64) :
    extractStridedSlice S1x64 ![255, 0] cs slices_S256x64_o255_0_S1x64 (ix2 0 e) = ∑ k ∈ Finset.range (256 * (c.val + 1)), column V e k := by
  pointwise []
  rw [h]
  rfl

/-- A chunk's stored rows from its running sums, the head's marks and attended rows. -/
def chunkOut (c : Fin 8) (hs : S40x2048.Slices ![0, 256 * c.val] S40x256) (sel : FVec Ideal S40x2048 .f32) (upd : FVec Ideal S40x64 .f32) (cs : FVec Ideal S256x64 .f32) :
    FVec Ideal S1x256x64 .f32 :=
  shapeCast S1x256x64 (addf (mulf cs (broadcastTo S256x64 (subf (broadcast S256x1 (Scalar.ofBits .f32 0x3F800000#32))
      (matmul dot_S40x256_S40x1_S256x1_0_0_1_1_n_n (some .fp32) (extractStridedSlice S40x256 ![0, 256 * c.val] sel hs) (k0_pay17 (F := Ideal))
        (constant S256x1 .f32 0x00000000#32))) broadcasts_S256x1_S256x64))
    (matmul dot_S40x256_S40x64_S256x64_0_0_1_1_n_n (some .fp32) (extractStridedSlice S40x256 ![0, 256 * c.val] sel hs) upd
        (constant S256x64 .f32 0x00000000#32))) shapeCasts_S256x64_S1x256x64

theorem chunkOut_at (Q K V : Rows) (c : Fin 8) hs (sel : FVec Ideal S40x2048 .f32) (upd : FVec Ideal S40x64 .f32) (cs : FVec Ideal S256x64 .f32)
    (hsel : ∀ u l, sel (ix2 u l) = if pick (measure Q K) u = l then (1 : EReal) else 0)
    (hupd : ∀ u e, upd (ix2 u e) = attend Q K V (pick (measure Q K) u) e)
    (hcs : ∀ r e, cs (ix2 r e) = running V ⟨256 * c.val + r.val, by omega⟩ e) (r : Fin 256) (e : Fin 64) :
    chunkOut c hs sel upd cs (ix3 0 r e) = result Q K V ⟨256 * c.val + r.val, by omega⟩ e := by
  pointwise [chunkOut, k0_pay17]
  simp only [hsel, hupd, hcs]
  exact result_of_marks Q K V _ e

end Cert.KernelIdeal.Hand

end

end
-- ==== Proof.KernelIdeal.Body.lean ====
/-
  What one grid point's body leaves in the result, with the head's and the chunk's numbers as variables: the slabs
  brought in, the table of measures, the marks, a head's chunks, and the slabs sent out.
-/
module

public import proofs.«01_k».proof.Proof.KernelIdeal.Run
public import proofs.«01_k».proof.Proof.KernelIdeal.Head

@[expose] public section

set_option maxRecDepth 16384

noncomputable section

namespace Cert.KernelIdeal.Hand

open Cert.KernelIdeal Cert.KernelIdeal.Gen
open Idealize.ShloMosaic Idealize.ShloMosaic.TcCoe
open Idealize.SL.Sem
open ProbSparse

/-- Head `j`'s slab of an array, at a grid point. -/
def far (a : Memref sig .tc .hbm S4x2048x16x64 .f32) (i : grid0.Coords) (j : Fin 8) : Memref sig .tc .hbm S2048x64 .f32 :=
  (a.slice (Rect.unit (s := S4x2048x16x64) (k0_off1 i (BitVec.ofNat 32 j.val)) S1x2048x1x64.size (k0_off1_inb i j)) (fun _ => rfl)).squeeze
    S2048x64 squeezes_S1x2048x1x64_S2048x64

theorem near_inb (j : Fin 8) : ∀ a, (![j.val, 0, 0] : Fin 3 → ℕ) a + S1x2048x64.size a ≤ S8x2048x64.size a := by
  revert j; decide

theorem chunk_inb (j c : Fin 8) : ∀ a, (![j.val, 256 * c.val, 0] : Fin 3 → ℕ) a + S1x256x64.size a ≤ S8x2048x64.size a := by
  revert j c; decide

theorem head_inb (j : Fin 8) : ∀ a, (![0, j.val, 0] : Fin 3 → ℕ) a + S40x1x2048.size a ≤ S40x8x2048.size a := by
  revert j; decide

theorem cut_slices (c : Fin 8) : S40x2048.Slices ![0, 256 * c.val] S40x256 := by revert c; decide

/-- Head `j`'s slab of a scratch buffer. -/
def near (b : Memref sig .tc .vmem S8x2048x64 .f32) (j : Fin 8) : Memref sig .tc .vmem S2048x64 .f32 :=
  (b.slice (Rect.unit (s := S8x2048x64) ![j.val, 0, 0] S1x2048x64.size (near_inb j)) (fun _ => rfl)).squeeze
    S2048x64 squeezes_S1x2048x64_S2048x64

/-- A scratch buffer with the heads' slabs of an array brought in. -/
def brought (c : Dev nD) (i : grid0.Coords) (a : Memref sig .tc .hbm S4x2048x16x64 .f32) (b : Memref sig .tc .vmem S8x2048x64 .f32)
    (x : Cts Ideal c a) (f : Cts Ideal c b) (js : List (Fin 8)) : Cts Ideal c b :=
  js.foldl (fun g j => View.write (Elt Ideal) (near b j).view g (ReadAs.same.apply (View.read (Elt Ideal) (far a i j).view x)) Finset.univ) f

def heads : List (Fin 8) := [0, 1, 2, 3, 4, 5, 6, 7]

/-- A head's whole slab, and a chunk of it, as loaded. -/
def slabOf (c : Dev nD) (i : grid0.Coords) (a : Memref sig .tc .hbm S4x2048x16x64 .f32) (b : Memref sig .tc .vmem S8x2048x64 .f32)
    (x : Cts Ideal c a) (f : Cts Ideal c b) (j : Fin 8) : FVec Ideal S1x2048x64 .f32 :=
  View.readAt (Elt Ideal) b.view (Rect.unit (s := S8x2048x64) ![j.val, 0, 0] S1x2048x64.size (near_inb j)).toLoadRect (brought c i a b x f heads)

def chunkOf (c : Dev nD) (i : grid0.Coords) (v : Cts Ideal c aV) (f : Cts Ideal c bV) (j n : Fin 8) : FVec Ideal S1x256x64 .f32 :=
  View.readAt (Elt Ideal) bV.view (Rect.unit (s := S8x2048x64) ![j.val, 256 * n.val, 0] S1x256x64.size (chunk_inb j n)).toLoadRect
    (brought c i aV bV v f heads)

/-- The table of the heads' measures. -/
def table (t : FVec Ideal S40x2048 .f32) (q k : Fin 8 → FVec Ideal S1x2048x64 .f32) : FVec Ideal S8x2048 .f32 :=
  concatenate S8x2048 0 [⟨S1x2048, mrow t (q 0) (k 0)⟩, ⟨S1x2048, mrow t (q 1) (k 1)⟩, ⟨S1x2048, mrow t (q 2) (k 2)⟩, ⟨S1x2048, mrow t (q 3) (k 3)⟩,
    ⟨S1x2048, mrow t (q 4) (k 4)⟩, ⟨S1x2048, mrow t (q 5) (k 5)⟩, ⟨S1x2048, mrow t (q 6) (k 6)⟩, ⟨S1x2048, mrow t (q 7) (k 7)⟩]
    concatenates_S1x2048_S1x2048_S1x2048_S1x2048_S1x2048_S1x2048_S1x2048_S1x2048_S8x2048_d0

/-- The places, a row for every head. -/
def places : IVec S8x2048 32 := iota .tc S8x2048 32 [1] iota_S8x2048_d1_w32

/-- A head's marks, as loaded. -/
def marked (x : FVec Ideal S8x2048 .f32) (j : Fin 8) : FVec Ideal S40x1x2048 .f32 :=
  bM.view.readCov (marks places x (Scf.trips k0_t1_loop.lb k0_t1_loop.ub k0_t1_loop.st))
    (Rect.unit (s := S40x8x2048) ![0, j.val, 0] S40x1x2048.size (head_inb j)).toLoadRect

/-- The running sums of a head's chunks. -/
def sums (v : Fin 8 → FVec Ideal S1x256x64 .f32) : ℕ → FVec Ideal S256x64 .f32
  | 0 => chunkSum (v 0) (broadcast S1x64 (Scalar.ofBits .f32 0x00000000#32))
  | n + 1 => chunkSum (v (Fin.ofNat 8 (n + 1))) (extractStridedSlice S1x64 ![255, 0] (sums v n) slices_S256x64_o255_0_S1x64)

/-- A head's stored chunk. -/
def stored (x : FVec Ideal S8x2048 .f32) (q k v : Fin 8 → FVec Ideal S1x2048x64 .f32) (w : Fin 8 → Fin 8 → FVec Ideal S1x256x64 .f32) (j n : Fin 8) :
    FVec Ideal S1x256x64 .f32 :=
  chunkOut n (cut_slices n) (k0_pay19 (marked x j)) (k0_pay21 (F := Ideal) (k0_pay20 (F := Ideal) (q j) (k j) (marked x j)) (v j)) (sums (w j) n.val)

def downHeads : List (Fin 8) := [7, 6, 5, 4, 3, 2, 1, 0]

/-- The stored chunks, the last first. -/
def chunks (z : Fin 8 → Fin 8 → FVec Ideal S1x256x64 .f32) : List (View.Piece (Elt Ideal) S8x2048x64 .f32) :=
  downHeads.flatMap fun j => downHeads.map fun n => ⟨Rect.unit (s := S8x2048x64) ![j.val, 256 * n.val, 0] S1x256x64.size (chunk_inb j n), z j n⟩

/-- The result with the heads' slabs sent out. -/
def sent (c : Dev nD) (i : grid0.Coords) (g : Cts Ideal c bO) (o : Cts Ideal c aO) (js : List (Fin 8)) : Cts Ideal c aO :=
  js.foldl (fun p j => View.write (Elt Ideal) (far aO i j).view p (ReadAs.same.apply (View.read (Elt Ideal) (near bO j).view g)) Finset.univ) o

section
variable (c : Dev nD) (i : grid0.Coords) (arg2 : Memref sig .tc .vmem S40x2048 .f32) (harg2 : arg2.IsWhole)
    (fs : Cts Ideal c arg2) (q : Cts Ideal c aQ) (k : Cts Ideal c aK) (v : Cts Ideal c aV) (o : Cts Ideal c aO)
    (f7 : Cts Ideal c bQ) (f8 : Cts Ideal c bK) (f9 : Cts Ideal c bV) (f10 : Cts Ideal c bO) (f11 : Cts Ideal c bM)

/-- The table of measures at a point, from the contents. -/
def tableAt : FVec Ideal S8x2048 .f32 :=
  table (View.readAt (Elt Ideal) arg2.view (Rect.unit (s := S40x2048) ![0, 0] S40x2048.size inb_S40x2048_S40x2048_0_0).toLoadRect fs)
    (slabOf c i aQ bQ q f7) (slabOf c i aK bK k f8)

def storedAt (j n : Fin 8) : FVec Ideal S1x256x64 .f32 :=
  stored (tableAt c i arg2 fs q k f7 f8) (slabOf c i aQ bQ q f7) (slabOf c i aK bK k f8) (slabOf c i aV bV v f9) (chunkOf c i v f9) j n

/-- The result after the body. -/
def left : Cts Ideal c aO :=
  sent c i (bO.view.writes (Elt Ideal) f10 (chunks (storedAt c i arg2 fs q k v f7 f8 f9))) o heads

theorem table_eq : bodyRun.sl.r_11 (F := Ideal) c i arg2 fs q k f7 f8 = tableAt c i arg2 fs q k f7 f8 := rfl

end

end Cert.KernelIdeal.Hand

end

end
-- ==== Proof.KernelIdeal.Slabs.lean ====
/-
  The elements of what a grid point brings in, marks, stores and sends out.
-/
module

public import proofs.«01_k».proof.Proof.KernelIdeal.Body
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe
open Idealize.SL.Sem
open ProbSparse Idealize.ShloMosaic.WordCmp

/-! ### The heads of a grid point -/

/-- The batch and the heads of a point. -/
def batch (i : grid0.Coords) : Fin 4 := ⟨(i 0).val, (i 0).isLt⟩
def headOf (i : grid0.Coords) (j : Fin 8) : Fin 16 := ⟨8 * (i 1).val + j.val, by have : (i 1).val < 2 := (i 1).isLt; omega⟩

theorem far_idx (l : Fin 2048) (e : Fin 64) : Shape.reshapeEquiv squeezes_S1x2048x1x64_S2048x64.numel_eq (ix2 l e : S2048x64.Idx) = (ix4 0 l 0 e : S1x2048x1x64.Idx) := by
  have key : ∀ y : FVec Ideal S1x2048x1x64 .f32, shapeCast S2048x64 y squeezes_S1x2048x1x64_S2048x64.numel_eq (ix2 l e) = y (ix4 0 l 0 e) := fun y => by
    pointwise []
  by_contra h
  have h1 := key (fun z => if z = (ix4 0 l 0 e : S1x2048x1x64.Idx) then (1 : EReal) else 0)
  have h2 : shapeCast S2048x64 (fun z => if z = (ix4 0 l 0 e : S1x2048x1x64.Idx) then (1 : EReal) else 0) squeezes_S1x2048x1x64_S2048x64.numel_eq (ix2 l e) = 0 := if_neg h
  rw [h2] at h1
  simp at h1

theorem near_idx (l : Fin 2048) (e : Fin 64) : Shape.reshapeEquiv squeezes_S1x2048x64_S2048x64.numel_eq (ix2 l e : S2048x64.Idx) = (ix3 0 l e : S1x2048x64.Idx) := by
  have key : ∀ y : FVec Ideal S1x2048x64 .f32, shapeCast S2048x64 y squeezes_S1x2048x64_S2048x64.numel_eq (ix2 l e) = y (ix3 0 l e) := fun y => by
    pointwise []
  by_contra h
  have h1 := key (fun z => if z = (ix3 0 l e : S1x2048x64.Idx) then (1 : EReal) else 0)
  have h2 : shapeCast S2048x64 (fun z => if z = (ix3 0 l e : S1x2048x64.Idx) then (1 : EReal) else 0) squeezes_S1x2048x64_S2048x64.numel_eq (ix2 l e) = 0 := if_neg h
  rw [h2] at h1
  simp at h1

theorem far_idx_symm (l : Fin 2048) (e : Fin 64) : (Shape.reshapeEquiv squeezes_S1x2048x1x64_S2048x64.numel_eq).symm (ix4 0 l 0 e : S1x2048x1x64.Idx) = (ix2 l e : S2048x64.Idx) :=
  (Equiv.symm_apply_eq _).mpr (far_idx l e).symm

theorem near_idx_symm (l : Fin 2048) (e : Fin 64) : (Shape.reshapeEquiv squeezes_S1x2048x64_S2048x64.numel_eq).symm (ix3 0 l e : S1x2048x64.Idx) = (ix2 l e : S2048x64.Idx) :=
  (Equiv.symm_apply_eq _).mpr (near_idx l e).symm

theorem far_emb (i : grid0.Coords) (j : Fin 8) (l : Fin 2048) (e : Fin 64) :
    (Rect.unit (s := S4x2048x16x64) (k0_off1 i (BitVec.ofNat 32 j.val)) S1x2048x1x64.size (k0_off1_inb i j)).emb (ix4 0 l 0 e : S1x2048x1x64.Idx)
      = (ix4 (batch i) l (headOf i j) e : S4x2048x16x64.Idx) := by
  refine Rect.emb_eq_of_coords _ _ _ fun a => ?_
  refine Eq.trans ?_ (congrArg (fun o => o + 1 * ((ix4 0 l 0 e : S1x2048x1x64.Idx) a).val) (congrFun (k0_off1_eq i j) a).symm)
  match a with
  | ⟨0, _⟩ => show (i 0).val = (i 0).val + 1 * 0; omega
  | ⟨1, _⟩ => show l.val = 0 + 1 * l.val; omega
  | ⟨2, _⟩ => show 8 * (i 1).val + j.val = 8 * (i 1).val + j.val + 1 * 0; omega
  | ⟨3, _⟩ => show e.val = 0 + 1 * e.val; omega

theorem near_emb (j : Fin 8) (l : Fin 2048) (e : Fin 64) :
    (Rect.unit (s := S8x2048x64) ![j.val, 0, 0] S1x2048x64.size (near_inb j)).emb (ix3 0 l e : S1x2048x64.Idx) = (ix3 j l e : S8x2048x64.Idx) := by
  refine Rect.emb_eq_of_coords _ _ _ fun a => ?_
  match a with
  | ⟨0, _⟩ => show j.val = j.val + 1 * 0; omega
  | ⟨1, _⟩ => show l.val = 0 + 1 * l.val; omega
  | ⟨2, _⟩ => show e.val = 0 + 1 * e.val; omega

theorem chunk_emb (j n : Fin 8) (r : Fin 256) (e : Fin 64) :
    (Rect.unit (s := S8x2048x64) ![j.val, 256 * n.val, 0] S1x256x64.size (chunk_inb j n)).emb (ix3 0 r e : S1x256x64.Idx)
      = (ix3 j ⟨256 * n.val + r.val, by omega⟩ e : S8x2048x64.Idx) := by
  refine Rect.emb_eq_of_coords _ _ _ fun a => ?_
  match a with
  | ⟨0, _⟩ => show j.val = j.val + 1 * 0; omega
  | ⟨1, _⟩ => show 256 * n.val + r.val = 256 * n.val + 1 * r.val; omega
  | ⟨2, _⟩ => show e.val = 0 + 1 * e.val; omega

theorem head_emb (j : Fin 8) (u : Fin 40) (l : Fin 2048) :
    (Rect.unit (s := S40x8x2048) ![0, j.val, 0] S40x1x2048.size (head_inb j)).emb (ix3 u 0 l : S40x1x2048.Idx) = (ix3 u j l : S40x8x2048.Idx) := by
  refine Rect.emb_eq_of_coords _ _ _ fun a => ?_
  match a with
  | ⟨0, _⟩ => show u.val = 0 + 1 * u.val; omega
  | ⟨1, _⟩ => show j.val = j.val + 1 * 0; omega
  | ⟨2, _⟩ => show l.val = 0 + 1 * l.val; omega

theorem round_emb (k : Fin k0_t1_loop.trips) (u : Fin 40) (hu : u.val = k.val) (j : Fin 8) (l : Fin 2048) :
    (Rect.unit (s := S40x8x2048) (k0_off2 k) S1x8x2048.size (k0_off2_inb k)).emb (ix3 0 j l : S1x8x2048.Idx) = (ix3 u j l : S40x8x2048.Idx) := by
  refine Rect.emb_eq_of_coords _ _ _ fun a => ?_
  refine Eq.trans ?_ (congrArg (fun o => o + 1 * ((ix3 0 j l : S1x8x2048.Idx) a).val) (congrFun (k0_off2_eq k) a).symm)
  match a with
  | ⟨0, _⟩ => show u.val = k.val + 1 * 0; omega
  | ⟨1, _⟩ => show j.val = 0 + 1 * j.val; omega
  | ⟨2, _⟩ => show l.val = 0 + 1 * l.val; omega

theorem first_idx {A B : ℕ} (z : (⟨3, ![1, A, B]⟩ : Shape).Idx) : ∃ p q, z = ix3 0 p q :=
  ⟨z 1, z 2, funext fun a => match a with
    | ⟨0, _⟩ => Subsingleton.elim (α := Fin 1) _ _
    | ⟨1, _⟩ => rfl
    | ⟨2, _⟩ => rfl⟩

theorem far_first (z : S1x2048x1x64.Idx) : ∃ p q, z = ix4 0 p 0 q :=
  ⟨z 1, z 3, funext fun a => match a with
    | ⟨0, _⟩ => Subsingleton.elim (α := Fin 1) _ _
    | ⟨1, _⟩ => rfl
    | ⟨2, _⟩ => Subsingleton.elim (α := Fin 1) _ _
    | ⟨3, _⟩ => rfl⟩

theorem mem_heads (j : Fin 8) : j ∈ heads := by revert j; decide
theorem mem_downHeads (j : Fin 8) : j ∈ downHeads := by revert j; decide

/-! ### The slabs brought in -/

section
variable (c : Dev nD) (i : grid0.Coords) (a : Memref sig .tc .hbm S4x2048x16x64 .f32) (b : Memref sig .tc .vmem S8x2048x64 .f32)
    (x : Cts Ideal c a)

/-- Head `j`'s slab as a write. -/
def slabRows (j : Fin 8) (z : S1x2048x64.Idx) : Elt Ideal .f32 :=
  View.read (Elt Ideal) (far a i j).view x ((Shape.reshapeEquiv squeezes_S1x2048x64_S2048x64.numel_eq).symm z)
def slabPiece (j : Fin 8) : View.Piece (Elt Ideal) S8x2048x64 .f32 :=
  ⟨Rect.unit (s := S8x2048x64) ![j.val, 0, 0] S1x2048x64.size (near_inb j), slabRows c i a x j⟩

/-- A write through a head's slab. -/
theorem near_write (j : Fin 8) (f : Cts Ideal c b) (w : S2048x64.Idx → Elt Ideal .f32) :
    View.write (Elt Ideal) (near b j).view f w Finset.univ
      = View.write (Elt Ideal) (b.view.slice (Rect.unit (s := S8x2048x64) ![j.val, 0, 0] S1x2048x64.size (near_inb j))) f
          (fun z => w ((Shape.reshapeEquiv squeezes_S1x2048x64_S2048x64.numel_eq).symm z)) Finset.univ :=
  View.write_reshape_univ (b.view.slice (Rect.unit (s := S8x2048x64) ![j.val, 0, 0] S1x2048x64.size (near_inb j)))
    squeezes_S1x2048x64_S2048x64.numel_eq f w

theorem brought_eq (js : List (Fin 8)) : ∀ f : Cts Ideal c b,
    brought c i a b x f js = b.view.writes (Elt Ideal) f (js.reverse.map (slabPiece c i a x)) := by
  induction js with
  | nil => exact fun f => rfl
  | cons j js ih =>
    intro f
    rw [List.reverse_cons, List.map_append, View.writes_append]
    exact (ih _).trans (congrArg (fun f' => b.view.writes (Elt Ideal) f' (js.reverse.map (slabPiece c i a x))) (near_write c b j f _))

theorem far_read (j : Fin 8) (l : Fin 2048) (e : Fin 64) :
    View.read (Elt Ideal) (far a i j).view x (ix2 l e) = View.read (Elt Ideal) a.view x (ix4 (batch i) l (headOf i j) e) := by
  show View.read (Elt Ideal) a.view x ((Rect.unit (s := S4x2048x16x64) (k0_off1 i (BitVec.ofNat 32 j.val)) S1x2048x1x64.size (k0_off1_inb i j)).emb
    (Shape.reshapeEquiv squeezes_S1x2048x1x64_S2048x64.numel_eq (ix2 l e : S2048x64.Idx))) = _
  rw [far_idx, far_emb]

theorem slabRows_at (j : Fin 8) (z : S1x2048x64.Idx) :
    slabRows c i a x j z = (fun y : S8x2048x64.Idx => View.read (Elt Ideal) a.view x (ix4 (batch i) (y 1) (headOf i (y 0)) (y 2)))
      ((Rect.unit (s := S8x2048x64) ![j.val, 0, 0] S1x2048x64.size (near_inb j)).emb z) := by
  obtain ⟨l, e, rfl⟩ := first_idx z
  unfold slabRows
  rw [near_idx_symm, far_read]
  exact congrArg (fun y : S8x2048x64.Idx => View.read (Elt Ideal) a.view x (ix4 (batch i) (y 1) (headOf i (y 0)) (y 2))) (near_emb j l e).symm

theorem brought_at (f : Cts Ideal c b) (j : Fin 8) (l : Fin 2048) (e : Fin 64) :
    View.read (Elt Ideal) b.view (brought c i a b x f heads) (ix3 j l e) = View.read (Elt Ideal) a.view x (ix4 (batch i) l (headOf i j) e) := by
  rw [brought_eq]
  refine View.read_writes_apply_of_pieces b.view f (fun y : S8x2048x64.Idx => View.read (Elt Ideal) a.view x (ix4 (batch i) (y 1) (headOf i (y 0)) (y 2))) _ ?_ _ ?_
  · intro p hp
    obtain ⟨j, -, rfl⟩ := List.mem_map.mp hp
    exact slabRows_at c i a x j
  · refine ⟨slabPiece c i a x j, List.mem_map.mpr ⟨j, List.mem_reverse.mpr (mem_heads j), rfl⟩, ?_⟩
    rw [← near_emb j l e]
    exact LoadRect.idx_mem _ _

theorem slabOf_at (f : Cts Ideal c b) (j : Fin 8) (l : Fin 2048) (e : Fin 64) :
    slabOf c i a b x f j (ix3 0 l e) = View.read (Elt Ideal) a.view x (ix4 (batch i) l (headOf i j) e) := by
  rw [← brought_at c i a b x f]
  exact congrArg (View.read (Elt Ideal) b.view (brought c i a b x f heads)) (near_emb j l e)

end

theorem chunkOf_at (c : Dev nD) (i : grid0.Coords) (v : Cts Ideal c aV) (f : Cts Ideal c bV) (j n : Fin 8) (r : Fin 256) (e : Fin 64) :
    chunkOf c i v f j n (ix3 0 r e) = View.read (Elt Ideal) aV.view v (ix4 (batch i) ⟨256 * n.val + r.val, by omega⟩ (headOf i j) e) := by
  rw [← brought_at c i aV bV v f]
  exact congrArg (View.read (Elt Ideal) bV.view (brought c i aV bV v f heads)) (chunk_emb j n r e)

/-! ### The table and the marks -/

theorem table_at (t : FVec Ideal S40x2048 .f32) (q k : Fin 8 → FVec Ideal S1x2048x64 .f32) (Q K : Fin 8 → Rows)
    (ht : ∀ i l, t (ix2 i l) = if place i = l then (1 : EReal) else 0)
    (hq : ∀ j l e, q j (ix3 0 l e) = Q j l e) (hk : ∀ j l e, k j (ix3 0 l e) = K j l e) (j : Fin 8) (l : Fin 2048) :
    table t q k (ix2 j l) = measure (Q j) (K j) l := by
  rw [← mrow_at t (q j) (k j) (Q j) (K j) ht (hq j) (hk j) l]
  fin_cases j <;> pointwise [table]

theorem places_at (j : Fin 8) (l : Fin 2048) : places (ix2 j l) = BitVec.ofNat 32 l.val := by pointwise [places]

theorem carry_tab (x : FVec Ideal S8x2048 .f32) (j : Fin 8) (m : Fin 2048 → EReal) (hm : ∀ l, m l ≠ ⊥) (hx : ∀ l, x (ix2 j l) = m l) :
    ∀ k ≤ 40, ∀ l, carry places x k (ix2 j l) = tab m k l := by
  intro k
  induction k with
  | zero => intro _ l; rw [carry_zero, hx, tab_zero]
  | succ k ih => intro hk l; exact lower_at places places_at _ j l m hm ⟨k, by omega⟩ (ih (by omega))

theorem trips_eq : k0_t1_loop.trips = 40 := by decide +kernel

theorem rounds_eq : Scf.trips k0_t1_loop.lb k0_t1_loop.ub k0_t1_loop.st = 40 := by decide +kernel

/-- The marks by round, head and place. -/
def marksOf (x : FVec Ideal S8x2048 .f32) (y : S40x8x2048.Idx) : Elt Ideal .f32 := k0_pay14 places (carry places x (y 0).val) (ix3 0 (y 1) (y 2))

theorem marksOf_at (x : FVec Ideal S8x2048 .f32) (u : Fin 40) (j : Fin 8) (l : Fin 2048) :
    marksOf x (ix3 u j l) = k0_pay14 places (carry places x u.val) (ix3 0 j l) := by
  unfold marksOf
  generalize carry places x = t
  generalize k0_pay14 (F := Ideal) places = p
  rfl

theorem round_at (x : FVec Ideal S8x2048 .f32) (k : Fin k0_t1_loop.trips) (hk : k.val < 40) (z : S1x8x2048.Idx) :
    k0_pay14 places (carry places x k.val) z = marksOf x ((Rect.unit (s := S40x8x2048) (k0_off2 k) S1x8x2048.size (k0_off2_inb k)).emb z) := by
  obtain ⟨j, l, rfl⟩ := first_idx z
  rw [round_emb k ⟨k.val, hk⟩ rfl j l, marksOf_at]

theorem marks_pieces (x : FVec Ideal S8x2048 .f32) : ∀ n ≤ 40, (∀ p ∈ marks places x n, ∀ z : p.1.shape.Idx, p.2 z = marksOf x (p.1.emb z))
    ∧ ∀ (u : Fin 40) (j : Fin 8) (l : Fin 2048), u.val < n → ∃ p ∈ marks places x n, (ix3 u j l : S40x8x2048.Idx) ∈ p.1.set := by
  intro n
  induction n with
  | zero => exact fun _ => ⟨fun p hp => absurd hp List.not_mem_nil, fun u _ _ hu => absurd hu (Nat.not_lt_zero _)⟩
  | succ n ih =>
    intro hn
    obtain ⟨h1, h2⟩ := ih (by omega)
    have hs := marks_succ places x ⟨n, by rw [trips_eq]; omega⟩
    rw [show marks places x (n + 1) = _ from hs]
    refine ⟨fun p hp => ?_, fun u j l hu => ?_⟩
    · rcases List.mem_cons.mp hp with rfl | hp
      · exact round_at x ⟨n, by rw [trips_eq]; omega⟩ (by show n < 40; omega)
      · exact h1 p hp
    · rcases Nat.lt_succ_iff_lt_or_eq.mp hu with hu | hu
      · obtain ⟨p, hp, hy⟩ := h2 u j l hu
        exact ⟨p, List.mem_cons_of_mem _ hp, hy⟩
      · refine ⟨_, List.mem_cons_self, ?_⟩
        rw [← round_emb ⟨n, by rw [trips_eq]; omega⟩ u hu j l]
        exact LoadRect.idx_mem _ _

theorem head_read (L : List (View.Piece (Elt Ideal) S40x8x2048 .f32)) (j : Fin 8) (u : Fin 40) (l : Fin 2048) :
    bM.view.readCov L (Rect.unit (s := S40x8x2048) ![0, j.val, 0] S40x1x2048.size (head_inb j)).toLoadRect (ix3 u 0 l)
      = View.read (Elt Ideal) bM.view (bM.view.writes (Elt Ideal) bM.view.junk L) (ix3 u j l) :=
  congrArg (View.read (Elt Ideal) bM.view (bM.view.writes (Elt Ideal) bM.view.junk L)) (head_emb j u l)

theorem marked_at (x : FVec Ideal S8x2048 .f32) (j : Fin 8) (m : Fin 2048 → EReal) (hm : ∀ l, m l ≠ ⊥) (hx : ∀ l, x (ix2 j l) = m l)
    (u : Fin 40) (l : Fin 2048) : marked x j (ix3 u 0 l) = if pick m u = l then (1 : EReal) else 0 := by
  unfold marked
  rw [head_read, View.read_writes_apply_of_pieces bM.view bM.view.junk (marksOf x) _ (marks_pieces x _ rounds_eq.le).1 _
    ((marks_pieces x _ rounds_eq.le).2 u j l (u.isLt.trans_eq rounds_eq.symm)), marksOf_at]
  exact slab_at places places_at _ j l m hm u (carry_tab x j m hm hx u.val (by omega))

/-! ### The chunks -/

theorem sums_at (V : Rows) (w : Fin 8 → FVec Ideal S1x256x64 .f32) (hw : ∀ (n : Fin 8) (r : Fin 256) e, w n (ix3 0 r e) = column V e (256 * n.val + r.val)) :
    ∀ (n : ℕ) (hn : n < 8) (r : Fin 256) (e : Fin 64), sums w n (ix2 r e) = running V ⟨256 * n + r.val, by omega⟩ e := by
  intro n
  induction n with
  | zero =>
    intro _ r e
    refine chunkSum_at V 0 (w 0) _ (hw 0) (fun e => ?_) r e
    show Ideal.ofBits .f32 0x00000000#32 = ∑ k ∈ Finset.range 0, column V e k
    rw [Finset.sum_range_zero]
    simp [Ideal.ofBits, Ideal.ieee]
  | succ n ih =>
    intro hn r e
    have hv : (Fin.ofNat 8 (n + 1)) = ⟨n + 1, hn⟩ := Fin.ext (Nat.mod_eq_of_lt hn)
    show chunkSum (w (Fin.ofNat 8 (n + 1))) _ (ix2 r e) = _
    rw [hv]
    exact chunkSum_at V ⟨n + 1, hn⟩ (w ⟨n + 1, hn⟩) _ (hw _) (carry_at V ⟨n, by omega⟩ (sums w n) (ih (by omega))) r e

theorem sel_at (s : FVec Ideal S40x1x2048 .f32) (u : Fin 40) (l : Fin 2048) : k0_pay19 s (ix2 u l) = s (ix3 u 0 l) := by
  pointwise [k0_pay19]

theorem stored_at (x : FVec Ideal S8x2048 .f32) (q k v : Fin 8 → FVec Ideal S1x2048x64 .f32) (w : Fin 8 → Fin 8 → FVec Ideal S1x256x64 .f32) (j n : Fin 8)
    (Q K V : Rows) (hm : ∀ l, measure Q K l ≠ ⊥) (hx : ∀ l, x (ix2 j l) = measure Q K l)
    (hq : ∀ l e, q j (ix3 0 l e) = Q l e) (hk : ∀ l e, k j (ix3 0 l e) = K l e) (hv : ∀ l e, v j (ix3 0 l e) = V l e)
    (hw : ∀ (n : Fin 8) (r : Fin 256) e, w j n (ix3 0 r e) = column V e (256 * n.val + r.val)) (r : Fin 256) (e : Fin 64) :
    stored x q k v w j n (ix3 0 r e) = result Q K V ⟨256 * n.val + r.val, by omega⟩ e := by
  refine chunkOut_at Q K V n _ _ _ _ (fun u l => ?_) (fun u e => ?_) (fun r e => sums_at V (w j) hw n.val n.isLt r e) r e
  · rw [sel_at]; exact marked_at x j _ hm hx u l
  · refine (upd_at _ _ u e).trans ?_
    unfold attend
    refine Finset.sum_congr rfl fun l _ => ?_
    rw [attn_at (q j) (k j) (marked x j) Q K (pick (measure Q K)) hq hk (marked_at x j _ hm hx) u l, hv]

/-! ### The slabs sent out -/

section
variable (c : Dev nD) (i : grid0.Coords) (g : Cts Ideal c bO)

/-- Head `j`'s slab of the result as a write. -/
def outRows (j : Fin 8) (z : S1x2048x1x64.Idx) : Elt Ideal .f32 :=
  View.read (Elt Ideal) (near bO j).view g ((Shape.reshapeEquiv squeezes_S1x2048x1x64_S2048x64.numel_eq).symm z)
def outPiece (j : Fin 8) : View.Piece (Elt Ideal) S4x2048x16x64 .f32 :=
  ⟨Rect.unit (s := S4x2048x16x64) (k0_off1 i (BitVec.ofNat 32 j.val)) S1x2048x1x64.size (k0_off1_inb i j), outRows c g j⟩

theorem far_write (j : Fin 8) (o : Cts Ideal c aO) (w : S2048x64.Idx → Elt Ideal .f32) :
    View.write (Elt Ideal) (far aO i j).view o w Finset.univ
      = View.write (Elt Ideal) (aO.view.slice (Rect.unit (s := S4x2048x16x64) (k0_off1 i (BitVec.ofNat 32 j.val)) S1x2048x1x64.size (k0_off1_inb i j))) o
          (fun z => w ((Shape.reshapeEquiv squeezes_S1x2048x1x64_S2048x64.numel_eq).symm z)) Finset.univ :=
  View.write_reshape_univ (aO.view.slice (Rect.unit (s := S4x2048x16x64) (k0_off1 i (BitVec.ofNat 32 j.val)) S1x2048x1x64.size (k0_off1_inb i j)))
    squeezes_S1x2048x1x64_S2048x64.numel_eq o w

theorem sent_writes (js : List (Fin 8)) : ∀ o : Cts Ideal c aO,
    sent c i g o js = aO.view.writes (Elt Ideal) o (js.reverse.map (outPiece c i g)) := by
  induction js with
  | nil => exact fun o => rfl
  | cons j js ih =>
    intro o
    rw [List.reverse_cons, List.map_append, View.writes_append]
    exact (ih _).trans (congrArg (fun f' => aO.view.writes (Elt Ideal) f' (js.reverse.map (outPiece c i g))) (far_write c i j o _))

theorem near_read (j : Fin 8) (l : Fin 2048) (e : Fin 64) :
    View.read (Elt Ideal) (near bO j).view g (ix2 l e) = View.read (Elt Ideal) bO.view g (ix3 j l e) := by
  show View.read (Elt Ideal) bO.view g ((Rect.unit (s := S8x2048x64) ![j.val, 0, 0] S1x2048x64.size (near_inb j)).emb
    (Shape.reshapeEquiv squeezes_S1x2048x64_S2048x64.numel_eq (ix2 l e : S2048x64.Idx))) = _
  rw [near_idx, near_emb]

theorem outRows_at (G : S4x2048x16x64.Idx → Elt Ideal .f32)
    (hG : ∀ j l e, View.read (Elt Ideal) bO.view g (ix3 j l e) = G (ix4 (batch i) l (headOf i j) e)) (j : Fin 8) (z : S1x2048x1x64.Idx) :
    outRows c g j z
      = G ((Rect.unit (s := S4x2048x16x64) (k0_off1 i (BitVec.ofNat 32 j.val)) S1x2048x1x64.size (k0_off1_inb i j)).emb z) := by
  obtain ⟨l, e, rfl⟩ := far_first z
  unfold outRows
  rw [far_idx_symm, near_read, hG]
  exact congrArg G (far_emb i j l e).symm

/-- An element of the point's heads. -/
theorem sent_hit (o : Cts Ideal c aO) (G : S4x2048x16x64.Idx → Elt Ideal .f32)
    (hG : ∀ j l e, View.read (Elt Ideal) bO.view g (ix3 j l e) = G (ix4 (batch i) l (headOf i j) e)) (j : Fin 8) (l : Fin 2048) (e : Fin 64) :
    View.read (Elt Ideal) aO.view (sent c i g o heads) (ix4 (batch i) l (headOf i j) e) = G (ix4 (batch i) l (headOf i j) e) := by
  rw [sent_writes]
  refine View.read_writes_apply_of_pieces aO.view o G _ ?_ _ ?_
  · intro p hp
    obtain ⟨j, -, rfl⟩ := List.mem_map.mp hp
    exact outRows_at c i g G hG j
  · refine ⟨outPiece c i g j, List.mem_map.mpr ⟨j, List.mem_reverse.mpr (mem_heads j), rfl⟩, ?_⟩
    rw [← far_emb i j l e]
    exact LoadRect.idx_mem _ _

/-- An element of another batch or head. -/
theorem sent_miss (o : Cts Ideal c aO) (y : S4x2048x16x64.Idx) (hy : ¬((y 0).val = (i 0).val ∧ 8 * (i 1).val ≤ (y 2).val ∧ (y 2).val < 8 * (i 1).val + 8)) :
    View.read (Elt Ideal) aO.view (sent c i g o heads) y = View.read (Elt Ideal) aO.view o y := by
  rw [sent_writes]
  refine View.read_writes_apply_of_forall_not_mem _ _ _ _ fun p hp hm => hy ?_
  obtain ⟨j, -, rfl⟩ := List.mem_map.mp hp
  have hm' := Rect.mem_set_unit.mp (show y ∈ (Rect.unit (s := S4x2048x16x64) (k0_off1 i (BitVec.ofNat 32 j.val)) S1x2048x1x64.size (k0_off1_inb i j)).set from hm)
  rw [k0_off1_eq] at hm'
  have h0 : (i 0).val ≤ (y 0).val ∧ (y 0).val < (i 0).val + 1 := hm' 0
  have h2 : 8 * (i 1).val + j.val ≤ (y 2).val ∧ (y 2).val < 8 * (i 1).val + j.val + 1 := hm' 2
  omega

end

/-! ### The stored chunks together -/

theorem chunk_piece (z : S1x256x64.Idx → Elt Ideal .f32) (H : S8x2048x64.Idx → Elt Ideal .f32) (j n : Fin 8)
    (hz : ∀ (r : Fin 256) (e : Fin 64), z (ix3 0 r e) = H (ix3 j ⟨256 * n.val + r.val, by omega⟩ e)) (w : S1x256x64.Idx) :
    z w = H ((Rect.unit (s := S8x2048x64) ![j.val, 256 * n.val, 0] S1x256x64.size (chunk_inb j n)).emb w) := by
  obtain ⟨r, e, rfl⟩ := first_idx w
  rw [hz]
  exact congrArg H (chunk_emb j n r e).symm

theorem chunks_at (c : Dev nD) (z : Fin 8 → Fin 8 → FVec Ideal S1x256x64 .f32) (f : Cts Ideal c bO) (H : S8x2048x64.Idx → Elt Ideal .f32)
    (hz : ∀ (j n : Fin 8) (r : Fin 256) (e : Fin 64), z j n (ix3 0 r e) = H (ix3 j ⟨256 * n.val + r.val, by omega⟩ e)) (j : Fin 8) (l : Fin 2048) (e : Fin 64) :
    View.read (Elt Ideal) bO.view (bO.view.writes (Elt Ideal) f (chunks z)) (ix3 j l e) = H (ix3 j l e) := by
  refine View.read_writes_apply_of_pieces bO.view f H _ ?_ _ ?_
  · intro p hp
    obtain ⟨j, -, hp⟩ := List.mem_flatMap.mp hp
    obtain ⟨n, -, rfl⟩ := List.mem_map.mp hp
    exact chunk_piece (z j n) H j n (hz j n)
  · have hn : l.val / 256 < 8 := by omega
    refine ⟨_, List.mem_flatMap.mpr ⟨j, mem_downHeads j, List.mem_map.mpr ⟨⟨l.val / 256, hn⟩, mem_downHeads _, rfl⟩⟩, ?_⟩
    have hl : (ix3 j l e : S8x2048x64.Idx) = ix3 j ⟨256 * (l.val / 256) + l.val % 256, by omega⟩ e := by
      congr 1; exact Fin.ext (Nat.div_add_mod _ _).symm
    rw [hl, ← chunk_emb j ⟨l.val / 256, hn⟩ ⟨l.val % 256, Nat.mod_lt _ (by omega)⟩ e]
    exact LoadRect.idx_mem _ _

end Cert.KernelIdeal.Hand

end

end
-- ==== Proof.KernelIdeal.Chunks.lean ====
/-
  The body's run in the terms of Body.lean: the slabs sent out, and the sixty-four chunks stored before.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (c : Dev nD) (i : grid0.Coords) (arg2 : Memref sig .tc .vmem S40x2048 .f32) (harg2 : arg2.IsWhole)
    (fs : Cts Ideal c arg2) (q : Cts Ideal c aQ) (k : Cts Ideal c aK) (v : Cts Ideal c aV) (o : Cts Ideal c aO)
    (f7 : Cts Ideal c bQ) (f8 : Cts Ideal c bK) (f9 : Cts Ideal c bV) (f10 : Cts Ideal c bO) (f11 : Cts Ideal c bM)

theorem sent_eq : (bodyRun c i arg2 harg2 fs q k v o f7 f8 f9 f10 f11).1
    = sent c i (bO.view.writes (Elt Ideal) f10 (bodyRun.sl.H10_64 c i arg2 fs q k v f7 f8 f9)) o heads := (rfl)

set_option maxHeartbeats 40000000 in
theorem chunks_eq : bodyRun.sl.H10_64 c i arg2 fs q k v f7 f8 f9 = chunks (storedAt c i arg2 fs q k v f7 f8 f9) := (rfl)

theorem left_eq : (bodyRun c i arg2 harg2 fs q k v o f7 f8 f9 f10 f11).1 = left c i arg2 fs q k v o f7 f8 f9 f10 := by
  rw [sent_eq, chunks_eq]; rfl

end Cert.KernelIdeal.Hand

end

end
-- ==== Proof.KernelIdeal.Sampled.lean ====
/-
  The table of sampled places, as the region finds it and as a grid point's block holds it.
-/
module

public import proofs.«01_k».proof.Proof.KernelIdeal.Launch
public import proofs.«01_k».proof.Proof.KernelIdeal.Head

@[expose] public section

set_option maxRecDepth 16384

noncomputable section

namespace Cert.KernelIdeal.Hand

open Cert.KernelIdeal Cert.KernelIdeal.Gen
open Idealize.ShloMosaic Idealize.ShloMosaic.TcCoe
open Idealize.SL.Sem
open ProbSparse

variable (m : (ℓ : Loc nD τ sig) → Buf (Elt Ideal) ℓ)

/-- What every word of the printed table is. -/
def Entry : Prop := ∀ (i : Fin 40) (l : Fin 2048), lit0t (2048 * i.val + l.val) = if 2024 - 24 * i.val = l.val then 0x3F800000#32 else 0x00000000#32

theorem word_at (he : Entry) (i : Fin 40) (l : Fin 2048) :
    Ideal.ofBits .f32 (lit0 (S40x2048.rowMajor (ix2 i l))) = if place i = l then (1 : EReal) else 0 := by
  have hr : (S40x2048.rowMajor (ix2 i l)).val = 2048 * i.val + l.val := by
    rw [Shape.rowMajor_val_two]
    show i.val * 2048 + l.val = _; omega
  show Ideal.ofBits .f32 (lit0t (S40x2048.rowMajor (ix2 i l)).val) = _
  rw [hr, he]
  by_cases h : place i = l
  · rw [if_pos h, if_pos (by rw [← h]; rfl)]
    simp [Ideal.ofBits, Ideal.ieee]
    rw [← EReal.coe_mul]; norm_num
  · rw [if_neg h, if_neg (show ¬(2024 - 24 * i.val = l.val) from fun h' => h (Fin.ext h'))]
    simp [Ideal.ofBits, Ideal.ieee]

/-- The printed table of sampled places. -/
def printed : S40x2048.Idx → EReal := fun i => FloatOps.ofBits (F := Ideal) .f32 (lit0 (S40x2048.rowMajor i))

theorem V_cst (c : Dev nD) : V m c main_cst = printed := by
  show StableHlo.after hostOps0 (fun b => m (c, b)) (Proc.devRef .tc main_cst) = printed
  rw [hostOps0, StableHlo.after_cons, StableHlo.after_nil]
  exact (StableHlo.nullary_result (Val := Elt Ideal) main_cst _ _ _).trans rfl

theorem block_at (he : Entry) (c : Dev nD) (t : Fin cfg0.N) (i : Fin 40) (l : Fin 2048) :
    (iblk m c 0 t : S40x2048.Idx → EReal) (ix2 i l) = if place i = l then (1 : EReal) else 0 := by
  rw [← word_at he]
  have hy : ((win0_0).rect t).emb (ix2 i l : S40x2048.Idx) = (ix2 i l : S40x2048.Idx) := by
    funext a
    apply Fin.ext
    exact Pipeline.Window.rect_emb_val_of_index_zero win0_0 t a (by match a with | ⟨0, _⟩ => rfl | ⟨1, _⟩ => rfl) _
  show (V m c main_cst : S40x2048.Idx → EReal) ((win0_0.rect t).emb (ix2 i l : S40x2048.Idx)) = _
  rw [hy, V_cst]
  rfl

end Cert.KernelIdeal.Hand

end

end
-- ==== Proof.KernelIdeal.Steps.lean ====
/-
  Every grid point sets the result's elements of its batch and heads, and leaves the others.
-/
module

public import proofs.«01_k».proof.Proof.KernelIdeal.Slabs
public import proofs.«01_k».proof.Proof.KernelIdeal.Chunks
public import proofs.«01_k».proof.Proof.KernelIdeal.Sampled

@[expose] public section

set_option maxRecDepth 16384

noncomputable section

namespace Cert.KernelIdeal.Hand

open Cert.KernelIdeal Cert.KernelIdeal.Gen
open Idealize.ShloMosaic Idealize.ShloMosaic.TcCoe
open Idealize.SL.Sem
open ProbSparse

/-- The rows of one head of an array. -/
def headRows (x : FVec Ideal S4x2048x16x64 .f32) (b : Fin 4) (h : Fin 16) : Rows := fun l e => x (ix4 b l h e)

/-- The result, by batch, place, head and lane. -/
def outcome (q k v : FVec Ideal S4x2048x16x64 .f32) : FVec Ideal S4x2048x16x64 .f32 :=
  fun y => result (headRows q (y 0) (y 2)) (headRows k (y 0) (y 2)) (headRows v (y 0) (y 2)) (y 1) (y 3)

/-- No measure is minus infinity. -/
def Measured (q k : FVec Ideal S4x2048x16x64 .f32) : Prop := ∀ b h l, measure (headRows q b h) (headRows k b h) l ≠ ⊥

section
variable (c : Dev nD) (i : grid0.Coords) (arg2 : Memref sig .tc .vmem S40x2048 .f32)
    (fs : Cts Ideal c arg2) (q : Cts Ideal c aQ) (k : Cts Ideal c aK) (v : Cts Ideal c aV) (o : Cts Ideal c aO)
    (f7 : Cts Ideal c bQ) (f8 : Cts Ideal c bK) (f9 : Cts Ideal c bV) (f10 : Cts Ideal c bO)

theorem loaded_at (i' : Fin 40) (l : Fin 2048) :
    View.readAt (Elt Ideal) arg2.view (Rect.unit (s := S40x2048) ![0, 0] S40x2048.size inb_S40x2048_S40x2048_0_0).toLoadRect fs (ix2 i' l)
      = View.read (Elt Ideal) arg2.view fs (ix2 i' l) := by
  have he : (Rect.unit (s := S40x2048) ![0, 0] S40x2048.size inb_S40x2048_S40x2048_0_0).emb (ix2 i' l : S40x2048.Idx) = (ix2 i' l : S40x2048.Idx) := by
    refine Rect.emb_eq_of_coords _ _ _ fun a => ?_
    match a with
    | ⟨0, _⟩ => show i'.val = 0 + 1 * i'.val; omega
    | ⟨1, _⟩ => show l.val = 0 + 1 * l.val; omega
  exact congrArg (View.read (Elt Ideal) arg2.view fs) he

theorem storedAt_at (hm : Measured (View.read (Elt Ideal) aQ.view q) (View.read (Elt Ideal) aK.view k))
    (ht : ∀ i' l, View.read (Elt Ideal) arg2.view fs (ix2 i' l) = if place i' = l then (1 : EReal) else 0)
    (j n : Fin 8) (r : Fin 256) (e : Fin 64) :
    storedAt c i arg2 fs q k v f7 f8 f9 j n (ix3 0 r e)
      = outcome (View.read (Elt Ideal) aQ.view q) (View.read (Elt Ideal) aK.view k) (View.read (Elt Ideal) aV.view v)
          (ix4 (batch i) ⟨256 * n.val + r.val, by omega⟩ (headOf i j) e) := by
  unfold storedAt tableAt
  refine stored_at _ _ _ _ _ j n (headRows (View.read (Elt Ideal) aQ.view q) (batch i) (headOf i j)) (headRows (View.read (Elt Ideal) aK.view k) (batch i) (headOf i j))
    (headRows (View.read (Elt Ideal) aV.view v) (batch i) (headOf i j)) (hm _ _) (fun l => ?_) (slabOf_at c i aQ bQ q f7 j) (slabOf_at c i aK bK k f8 j)
    (slabOf_at c i aV bV v f9 j) (fun n r e => ?_) r e
  · exact table_at _ _ _ (fun j => headRows (View.read (Elt Ideal) aQ.view q) (batch i) (headOf i j)) (fun j => headRows (View.read (Elt Ideal) aK.view k) (batch i) (headOf i j))
      (fun i' l => (loaded_at c arg2 fs i' l).trans (ht i' l)) (slabOf_at c i aQ bQ q f7) (slabOf_at c i aK bK k f8) j l
  · rw [chunkOf_at]
    unfold column
    rw [dif_pos (by omega)]
    rfl

theorem left_in (hm : Measured (View.read (Elt Ideal) aQ.view q) (View.read (Elt Ideal) aK.view k))
    (ht : ∀ i' l, View.read (Elt Ideal) arg2.view fs (ix2 i' l) = if place i' = l then (1 : EReal) else 0) (j : Fin 8) (l : Fin 2048) (e : Fin 64) :
    View.read (Elt Ideal) aO.view (left c i arg2 fs q k v o f7 f8 f9 f10) (ix4 (batch i) l (headOf i j) e)
      = outcome (View.read (Elt Ideal) aQ.view q) (View.read (Elt Ideal) aK.view k) (View.read (Elt Ideal) aV.view v) (ix4 (batch i) l (headOf i j) e) := by
  unfold left
  refine sent_hit c i _ o (outcome (View.read (Elt Ideal) aQ.view q) (View.read (Elt Ideal) aK.view k) (View.read (Elt Ideal) aV.view v)) (fun j l e => ?_) j l e
  exact chunks_at c _ f10 (fun y => outcome (View.read (Elt Ideal) aQ.view q) (View.read (Elt Ideal) aK.view k) (View.read (Elt Ideal) aV.view v)
    (ix4 (batch i) (y 1) (headOf i (y 0)) (y 2))) (storedAt_at c i arg2 fs q k v f7 f8 f9 hm ht) j l e

end

theorem coords_val : ∀ t : Fin grid0.N, (grid0.coords t 0).val = t.val / 2 ∧ (grid0.coords t 1).val = t.val % 2 := by decide +kernel

variable (m : (ℓ : Loc nD τ sig) → Buf (Elt Ideal) ℓ)

/-- The result's elements of the points before `t` are set. -/
def Set (c : Dev nD) (t : ℕ) (o : Cts Ideal c aO) : Prop :=
  ∀ y : S4x2048x16x64.Idx, 2 * (y 0).val + (y 2).val / 8 < t →
    View.read (Elt Ideal) aO.view o y = outcome (V m c main_arg0) (V m c main_arg1) (V m c main_arg2) y

theorem step_at (c : Dev nD) (i : grid0.Coords) (t : ℕ) (hi : (i 0).val = t / 2 ∧ (i 1).val = t % 2) (arg2 : Memref sig .tc .vmem S40x2048 .f32)
    (fs : Cts Ideal c arg2) (o : Cts Ideal c aO) (f7 : Cts Ideal c bQ) (f8 : Cts Ideal c bK) (f9 : Cts Ideal c bV) (f10 : Cts Ideal c bO)
    (hm : Measured (V m c main_arg0) (V m c main_arg1))
    (ht : ∀ i' l, View.read (Elt Ideal) arg2.view fs (ix2 i' l) = if place i' = l then (1 : EReal) else 0) (ho : Set m c t o) :
    Set m c (t + 1) (left c i arg2 fs (V m c main_arg0) (V m c main_arg1) (V m c main_arg2) o f7 f8 f9 f10) := by
  intro y hy
  by_cases hin : (y 0).val = (i 0).val ∧ 8 * (i 1).val ≤ (y 2).val ∧ (y 2).val < 8 * (i 1).val + 8
  · have hy' : y = (ix4 (batch i) (y 1) (headOf i ⟨(y 2).val - 8 * (i 1).val, by omega⟩) (y 3) : S4x2048x16x64.Idx) := by
      funext a
      match a with
      | ⟨0, _⟩ => exact Fin.ext hin.1
      | ⟨1, _⟩ => rfl
      | ⟨2, _⟩ => exact Fin.ext (by show (y 2).val = 8 * (i 1).val + ((y 2).val - 8 * (i 1).val); omega)
      | ⟨3, _⟩ => rfl
    rw [hy']
    exact left_in c i arg2 fs _ _ _ o f7 f8 f9 f10 hm ht _ _ _
  · refine (sent_miss c i _ o y hin).trans (ho y ?_)
    have : (y 2).val < 16 := (y 2).isLt
    omega

theorem steps (he : Entry) (hm : ∀ c, Measured (V m c main_arg0) (V m c main_arg1)) : StepsOf m (Set m) := by
  intro c t fs o f7 f8 f9 f10 f11 hfs ho
  rw [left_eq]
  refine step_at m c (grid0.coords t) t.val (coords_val t) _ fs o f7 f8 f9 f10 (hm c) (fun i' l => ?_) ho
  rw [hfs]
  exact block_at m he c t i' l

end Cert.KernelIdeal.Hand

end

end
-- ==== Proof.KernelIdeal.Entries.lean ====
/-
  The words of the printed table of sampled places: row `i` holds a one at place `2024 - 24 i`, zeros elsewhere.
-/
module

public import proofs.«01_k».proof.KernelIdeal
public import Mathlib.Tactic.FinCases

@[expose] public section

set_option maxRecDepth 100000
set_option maxHeartbeats 400000000

namespace Cert.KernelIdeal.Hand

open Cert.KernelIdeal

theorem entry (i : Fin 40) : ∀ l : Fin 2048, lit0t (2048 * i.val + l.val) = if 2024 - 24 * i.val = l.val then 0x3F800000#32 else 0x00000000#32 := by
  fin_cases i <;> decide +kernel

end Cert.KernelIdeal.Hand

end
-- ==== Proof.Reference.Top.lean ====
/-
  The reference's picks: the sampled keys, the measure of every query, and the places of the forty greatest.
-/
module

public import proofs.«01_k».proof.Proof.Gen.ReferenceIdeal.Run
public import proofs.«01_k».proof.Proof.Math.Spec
public import Idealize.ShloMosaic.Lib.Pointwise
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.SL.Sem
open ProbSparse Idealize.ShloMosaic.WordCmp

variable (V0 : Valuation τ sig (Elt Ideal))

/-- A head's rows of an array of the arguments. -/
def rows (x : FVec Ideal S4x2048x16x64 .f32) (b : Fin 4) (h : Fin 16) : Rows := fun l e => x (ix4 b l h e)

abbrev rQ : Fin 4 → Fin 16 → Rows := rows (V0 (Proc.devRef .tc main_arg0))
abbrev rK : Fin 4 → Fin 16 → Rows := rows (V0 (Proc.devRef .tc main_arg1))
abbrev rV : Fin 4 → Fin 16 → Rows := rows (V0 (Proc.devRef .tc main_arg2))

theorem v0_at (b : Fin 4) (h : Fin 16) (l : Fin 2048) (e : Fin 64) : res_main_v0 V0 (ix4 b h l e) = rQ V0 b h l e := by
  pointwise [res_main_v0, rows]

theorem v1_at (b : Fin 4) (h : Fin 16) (l : Fin 2048) (e : Fin 64) : res_main_v1 V0 (ix4 b h l e) = rK V0 b h l e := by
  pointwise [res_main_v1, rows]

theorem v2_at (b : Fin 4) (h : Fin 16) (l : Fin 2048) (e : Fin 64) : res_main_v2 V0 (ix4 b h l e) = rV V0 b h l e := by
  pointwise [res_main_v2, rows]

/-- The sampled places, from the printed table. -/
theorem table_at (u : Fin 40) : lit0 (S40.rowMajor (ix1 u)) = BitVec.ofNat 32 (place u).val := by
  have : S40.rowMajor (ix1 u) = u := by apply Fin.ext; revert u; decide
  rw [this]; clear this
  revert u; decide

theorem c_at (u : Fin 40) : res_main_c V0 (ix1 u) = BitVec.ofNat 32 (place u).val := table_at u

/-- A place's word is not negative. -/
theorem slt_zero (l : Fin 2048) : IntOp.cmpi .slt (BitVec.ofNat 32 l.val) 0#32 = 0#1 := by
  have := cmpi_slt_ofNat (w := 32) (a := l.val) (b := 0) (by omega) (by omega)
  simpa using this

theorem sge_zero (l : Fin 2048) : IntOp.cmpi .sge (BitVec.ofNat 32 l.val) 0#32 = 1#1 := by
  have := cmpi_sge_ofNat (w := 32) (a := l.val) (b := 0) (by omega) (by omega)
  simpa using this

theorem sle_last (l : Fin 2048) : IntOp.cmpi .sle (BitVec.ofNat 32 l.val) 2047#32 = 1#1 := by
  have := cmpi_sle_ofNat (w := 32) (a := l.val) (b := 2047) (by omega) (by omega)
  rw [show (2047#32 : BitVec 32) = BitVec.ofNat 32 2047 from rfl, this]
  exact congrArg _ (decide_eq_true (by omega))

theorem word_place (l : Fin 2048) : min (BitVec.ofNat 32 l.val).toInt.toNat 2047 = l.val := by
  rw [BitVec.toInt_eq_toNat_of_lt (by rw [BitVec.toNat_ofNat]; omega), BitVec.toNat_ofNat, Nat.mod_eq_of_lt (by omega)]
  omega

theorem call0_v5_at (u : Fin 40) : res_main_call0_v5 V0 (ix2 u 0) = BitVec.ofNat 32 (place u).val := by
  pointwise [res_main_call0_v5]
  rw [c_at, slt_zero]; rfl

theorem gather_take (x : FVec Ideal S4x16x2048x64 .f32) (idx : IVec S40x1 32) (p : Fin 40 → Fin 2048) (hp : ∀ u, idx (ix2 u 0) = BitVec.ofNat 32 (p u).val)
    (b : Fin 4) (h : Fin 16) (u : Fin 40) (e : Fin 64) :
    Host.gather gather_S4x16x2048x64_S40x1_S4x16x40x64_013_2_n_n_2_1_416164 x idx (ix4 b h u e) = x (ix4 b h (p u) e) := by
  unfold Host.gather
  congr 1
  funext a
  apply Fin.ext
  match a with
  | ⟨0, _⟩ => show 0 + 0 + b.val = b.val; omega
  | ⟨1, _⟩ => show 0 + 0 + h.val = h.val; omega
  | ⟨2, _⟩ =>
    show min (idx _).toInt.toNat 2047 + 0 + 0 = (p u).val
    refine Eq.trans ?_ ((congrArg (fun w : BitVec 32 => min w.toInt.toNat 2047) (hp u)).trans (word_place (p u)))
    refine congrArg (fun z => min (idx z).toInt.toNat 2047) ?_
    funext b; match b with | ⟨0, _⟩ => rfl | ⟨1, _⟩ => rfl
  | ⟨3, _⟩ => show 0 + 0 + e.val = e.val; omega

/-- The sampled keys of a table of places. -/
def taken (x : FVec Ideal S4x16x2048x64 .f32) (idx : IVec S40x1 32) : FVec Ideal S4x16x40x64 .f32 :=
  select (broadcastInDim S4x16x40x64 ![2] bcast_S40_S4x16x40x64_2 (Host.reduce IntOp.andi (andi (cmpi .sge idx (broadcastInDim S40x1 ![] bcast_S_S40x1 (constantI S_ 32 0#32))) (cmpi .sle idx (broadcastInDim S40x1 ![0, 1] bcast_S1x1_S40x1_0_1 (broadcastInDim S1x1 ![1] bcast_S1_S1x1_1 (constantI S1 32 2047#32))))) (constantI S_ 1 1#1) reducesTo_S40x1_S40_d1 h_S_)) (Host.gather gather_S4x16x2048x64_S40x1_S4x16x40x64_013_2_n_n_2_1_416164 x idx) (broadcastInDim S4x16x40x64 ![] bcast_S_S4x16x40x64 (constant S_ .f32 0x7FC00000#32))

theorem taken_at (x : FVec Ideal S4x16x2048x64 .f32) (idx : IVec S40x1 32) (p : Fin 40 → Fin 2048) (hp : ∀ u, idx (ix2 u 0) = BitVec.ofNat 32 (p u).val)
    (b : Fin 4) (h : Fin 16) (u : Fin 40) (e : Fin 64) : taken x idx (ix4 b h u e) = x (ix4 b h (p u) e) := by
  pointwise [taken, gather_take _ _ p hp]
  have : (fun z : Fin 1 => IntOp.andi (IntOp.cmpi .sge (idx (ix2 u z)) 0#32) (IntOp.cmpi .sle (idx (ix2 u z)) 2047#32)) = fun _ => 1#1 := by
    funext z
    rw [Subsingleton.elim z 0, hp, sge_zero, sle_last]; rfl
  rw [this]; rfl

theorem v3_at (b : Fin 4) (h : Fin 16) (u : Fin 40) (e : Fin 64) : res_main_v3 V0 (ix4 b h u e) = rK V0 b h (place u) e :=
  (taken_at (res_main_v1 V0) (res_main_call0_v5 V0) place (call0_v5_at V0) b h u e).trans (v1_at V0 b h _ e)

def sampled (x : FVec Ideal S4x16x2048x64 .f32) (y : FVec Ideal S4x16x40x64 .f32) : FVec Ideal S4x16x2048x40 .f32 :=
  Host.dotGeneral (φ₁ := .f32) (φ₂ := .f32) dot_S4x16x2048x64_S4x16x40x64_S4x16x2048x40_3_3_2_2_01_01 none x (mulf y y)

theorem v5_at (b : Fin 4) (h : Fin 16) (l : Fin 2048) (u : Fin 40) : res_main_v5 V0 (ix4 b h l u) = dots (rQ V0 b h) (rK V0 b h) l u := by
  have key : ∀ (x : FVec Ideal S4x16x2048x64 .f32) (y : FVec Ideal S4x16x40x64 .f32),
      sampled x y (ix4 b h l u) = ∑ e, y (ix4 b h u e) * y (ix4 b h u e) * x (ix4 b h l e) := fun x y => by
    pointwise [sampled]
    exact Finset.sum_congr rfl fun e _ => mul_comm _ _
  refine (key (res_main_v0 V0) (res_main_v3 V0)).trans (Finset.sum_congr rfl fun e _ => ?_)
  rw [v3_at, v0_at]

def spread (x : FVec Ideal S4x16x2048x40 .f32) : FVec Ideal S4x16x2048 .f32 :=
  subf (Host.reduce FloatOps.maximumf x (constant S_ .f32 0xFF800000#32) reducesTo_S4x16x2048x40_S4x16x2048_d3 h_S_) (Host.divf (Host.reduceAdd x (constant S_ .f32 0x00000000#32) reducesTo_S4x16x2048x40_S4x16x2048_d3 h_S_) (broadcastInDim S4x16x2048 ![] bcast_S_S4x16x2048 (constant S_ .f32 0x45000000#32)))

theorem greatest_at (x : FVec Ideal S4x16x2048x40 .f32) (b : Fin 4) (h : Fin 16) (l : Fin 2048) :
    (Host.reduce (FloatOps.maximumf (F := Ideal) (φ := .f32)) x (constant S_ .f32 0xFF800000#32) reducesTo_S4x16x2048x40_S4x16x2048_d3 h_S_) (ix3 b h l)
      = Finset.univ.fold max (Ideal.ofBits .f32 0xFF800000#32) fun u => x (ix4 b h l u) := by
  pointwise []

theorem total_at (x : FVec Ideal S4x16x2048x40 .f32) (b : Fin 4) (h : Fin 16) (l : Fin 2048) :
    (Host.reduceAdd x (constant S_ .f32 0x00000000#32) reducesTo_S4x16x2048x40_S4x16x2048_d3 h_S_) (ix3 b h l) = ∑ u, x (ix4 b h l u) := by
  pointwise []

theorem part_at (y : FVec Ideal S4x16x2048 .f32) (b : Fin 4) (h : Fin 16) (l : Fin 2048) :
    Host.divf y (broadcastInDim S4x16x2048 ![] bcast_S_S4x16x2048 (constant S_ .f32 0x45000000#32)) (ix3 b h l)
      = Ideal.div (y (ix3 b h l)) (Ideal.ofBits .f32 0x45000000#32) := by
  pointwise []

theorem bits_bot : Ideal.ofBits .f32 0xFF800000#32 = ⊥ := by simp [Ideal.ofBits, Ideal.ieee]

theorem bits_count : Ideal.ofBits .f32 0x45000000#32 = ((2048 : ℝ) : EReal) := by
  simp [Ideal.ofBits, Ideal.ieee]; rw [← EReal.coe_mul]; norm_num

theorem sub_at (x y : FVec Ideal S4x16x2048 .f32) (b : Fin 4) (h : Fin 16) (l : Fin 2048) : subf x y (ix3 b h l) = x (ix3 b h l) - y (ix3 b h l) := by
  pointwise []

theorem spread_at (Q K : Rows) (x : FVec Ideal S4x16x2048x40 .f32) (b : Fin 4) (h : Fin 16) (l : Fin 2048) (hx : ∀ u, x (ix4 b h l u) = dots Q K l u) :
    spread x (ix3 b h l) = measure Q K l := by
  unfold spread ProbSparse.measure
  rw [sub_at, greatest_at, part_at, total_at, bits_bot, bits_count, Ideal.div_coe (by norm_num)]
  simp only [hx]

theorem v10_at (b : Fin 4) (h : Fin 16) (l : Fin 2048) : res_main_v10 V0 (ix3 b h l) = measure (rQ V0 b h) (rK V0 b h) l :=
  spread_at _ _ (res_main_v5 V0) b h l fun u => v5_at V0 b h l u

theorem lane_top (σ : (Fin 2048 → Fin 2048 → Bool) → Fin 2048 → Fin 2048) (m : FVec Ideal S4x16x2048 .f32) (b : Fin 4) (h : Fin 16) (p : Fin 2048)
    (L : S4x16x2048.Idx) (hL : L = ix3 b h p) :
    (L.along (2 : Fin 3) (σ (fun k k' => FloatOps.cmpfTotal .gt (m (L.along (2 : Fin 3) k)) (m (L.along (2 : Fin 3) k')) == 1#1) (L (2 : Fin 3)))) (2 : Fin 3)
      = σ (fun k k' => decide (m (ix3 b h k') < m (ix3 b h k))) p := by
  subst hL
  have hal : ∀ k : Fin 2048, Shape.Idx.along (ix3 b h p : S4x16x2048.Idx) (2 : Fin 3) k = (ix3 b h k : S4x16x2048.Idx) := fun k => by
    funext a
    match a with
    | ⟨0, _⟩ => rfl
    | ⟨1, _⟩ => rfl
    | ⟨2, _⟩ => rfl
  have hc : (fun k k' : Fin 2048 => FloatOps.cmpfTotal (F := Ideal) (φ := .f32) .gt (m ((ix3 b h p : S4x16x2048.Idx).along (2 : Fin 3) k)) (m ((ix3 b h p : S4x16x2048.Idx).along (2 : Fin 3) k')) == 1#1)
      = fun k k' => decide (m (ix3 b h k') < m (ix3 b h k)) := by
    funext k k'
    rw [hal, hal]
    show (BitVec.ofBool (decide (m (ix3 b h k') < m (ix3 b h k))) == 1#1) = _
    cases decide (m (ix3 b h k') < m (ix3 b h k)) <;> rfl
  exact (congrFun (hal _) (2 : Fin 3)).trans (congrArg (fun f => σ f p) hc)

theorem topK_at (m : FVec Ideal S4x16x2048 .f32) (b : Fin 4) (h : Fin 16) (u : Fin 40) :
    (Host.topK S4x16x40 2 (FloatOps.cmpfTotal .gt) m sliceFits_S4x16x2048_S4x16x40).2 (ix3 b h u)
      = BitVec.ofNat 32 (sortedFrom (before fun l => m (ix3 b h l)) (u.castLE (by decide))).val := by
  unfold Host.topK Host.sort2
  dsimp only
  rw [dif_pos (by decide)]
  show BitVec.ofNat 32 (Fin.val _) = _
  rw [← sortedFrom_stable]
  refine congrArg (fun z : Fin 2048 => BitVec.ofNat 32 z.val) (lane_top (fun f => sortedFrom f) m b h (u.castLE (by decide)) _ ?_)
  funext a
  match a with
  | ⟨0, _⟩ => exact Fin.ext (Nat.zero_add _)
  | ⟨1, _⟩ => exact Fin.ext (Nat.zero_add _)
  | ⟨2, _⟩ => exact Fin.ext (Nat.zero_add _)

theorem indices_at (b : Fin 4) (h : Fin 16) (u : Fin 40) :
    res_main_indices V0 (ix3 b h u) = BitVec.ofNat 32 (pick (measure (rQ V0 b h) (rK V0 b h)) u).val := by
  refine (topK_at (res_main_v10 V0) b h u).trans ?_
  rw [show (fun l => res_main_v10 V0 (ix3 b h l)) = measure (rQ V0 b h) (rK V0 b h) from funext fun l => v10_at V0 b h l, pick_eq]

end Cert.ReferenceIdeal.Hand

end

end
-- ==== Proof.Reference.Attend.lean ====
/-
  The reference's attended rows: the picked queries, their masked scores, the weights, and the sums over the values.
-/
module

public import proofs.«01_k».proof.Proof.Reference.Top

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.SL.Sem
open ProbSparse Idealize.ShloMosaic.WordCmp

variable (V0 : Valuation τ sig (Elt Ideal))

/-- The picks of every head. -/
def picks (b : Fin 4) (h : Fin 16) (u : Fin 40) : Fin 2048 := pick (measure (rQ V0 b h) (rK V0 b h)) u

theorem v11_at (b : Fin 4) (h : Fin 16) (u : Fin 40) : res_main_v11 V0 (ix4 b h u 0) = BitVec.ofNat 32 (picks V0 b h u).val := by
  have key : ∀ x : IVec S4x16x40 32, broadcastInDim S4x16x40x1 ![0, 1, 2] bcast_S4x16x40_S4x16x40x1_0_1_2 x (ix4 b h u 0) = x (ix3 b h u) := fun x => by
    pointwise []
  exact (key _).trans (indices_at V0 b h u)

/-- A column of words with the negative ones wrapped. -/
def wrapped (x : IVec S4x16x40x1 32) : IVec S4x16x40x1 32 :=
  select (cmpi .slt x (broadcastInDim S4x16x40x1 ![] bcast_S_S4x16x40x1 (constantI S_ 32 0#32))) (addi x (broadcastInDim S4x16x40x1 ![] bcast_S_S4x16x40x1 (constantI S_ 32 2048#32))) x

theorem call1_v4_at (b : Fin 4) (h : Fin 16) (u : Fin 40) : res_main_call1_v4 V0 (ix4 b h u 0) = BitVec.ofNat 32 (picks V0 b h u).val := by
  have key : ∀ (x : IVec S4x16x40x1 32) (l : Fin 2048), x (ix4 b h u 0) = BitVec.ofNat 32 l.val → wrapped x (ix4 b h u 0) = BitVec.ofNat 32 l.val := fun x l hx => by
    pointwise [wrapped]
    rw [hx, slt_zero]; rfl
  exact key _ _ (v11_at V0 b h u)

theorem gather_rows (x : FVec Ideal S4x16x2048x64 .f32) (idx : IVec S4x16x40x1 32) (p : Fin 4 → Fin 16 → Fin 40 → Fin 2048)
    (hp : ∀ b h u, idx (ix4 b h u 0) = BitVec.ofNat 32 (p b h u).val) (b : Fin 4) (h : Fin 16) (u : Fin 40) (e : Fin 64) :
    Host.gather gather_S4x16x2048x64_S4x16x40x1_S4x16x40x64_3_2_01_01_2_3_11164 x idx (ix4 b h u e) = x (ix4 b h (p b h u) e) := by
  unfold Host.gather
  congr 1
  funext a
  apply Fin.ext
  match a with
  | ⟨0, _⟩ => show 0 + b.val + 0 = b.val; omega
  | ⟨1, _⟩ => show 0 + h.val + 0 = h.val; omega
  | ⟨2, _⟩ =>
    show min (idx _).toInt.toNat 2047 + 0 + 0 = (p b h u).val
    refine Eq.trans ?_ ((congrArg (fun w : BitVec 32 => min w.toInt.toNat 2047) (hp b h u)).trans (word_place (p b h u)))
    refine congrArg (fun z => min (idx z).toInt.toNat 2047) ?_
    funext c; match c with | ⟨0, _⟩ => rfl | ⟨1, _⟩ => rfl | ⟨2, _⟩ => rfl | ⟨3, _⟩ => rfl
  | ⟨3, _⟩ => show 0 + 0 + e.val = e.val; omega

/-- The picked queries. -/
def pickedRows (q : FVec Ideal S4x16x2048x64 .f32) (ix : IVec S4x16x40x1 32) : FVec Ideal S4x16x40x64 .f32 :=
  select (broadcastInDim S4x16x40x64 ![0, 1, 2] bcast_S4x16x40_S4x16x40x64_0_1_2 (Host.reduce IntOp.andi (andi (cmpi .sge (ix) (broadcastInDim S4x16x40x1 ![] bcast_S_S4x16x40x1 (constantI S_ 32 0#32))) (cmpi .sle (ix) (broadcastInDim S4x16x40x1 ![0, 1, 2, 3] bcast_S1x1x1x1_S4x16x40x1_0_1_2_3 (broadcastInDim S1x1x1x1 ![3] bcast_S1_S1x1x1x1_3 (constantI S1 32 2047#32))))) (constantI S_ 1 1#1) reducesTo_S4x16x40x1_S4x16x40_d3 h_S_)) (Host.gather gather_S4x16x2048x64_S4x16x40x1_S4x16x40x64_3_2_01_01_2_3_11164 (q) (ix)) (broadcastInDim S4x16x40x64 ![] bcast_S_S4x16x40x64 (constant S_ .f32 0x7FC00000#32))

theorem pickedRows_at (q : FVec Ideal S4x16x2048x64 .f32) (ix : IVec S4x16x40x1 32) (p : Fin 4 → Fin 16 → Fin 40 → Fin 2048)
    (hp : ∀ b h u, ix (ix4 b h u 0) = BitVec.ofNat 32 (p b h u).val) (b : Fin 4) (h : Fin 16) (u : Fin 40) (e : Fin 64) :
    pickedRows q ix (ix4 b h u e) = q (ix4 b h (p b h u) e) := by
  pointwise [pickedRows, gather_rows _ _ p hp]
  have : (fun z : Fin 1 => IntOp.andi (IntOp.cmpi .sge (ix (ix4 b h u z)) 0#32) (IntOp.cmpi .sle (ix (ix4 b h u z)) 2047#32)) = fun _ => 1#1 := by
    funext z
    rw [Subsingleton.elim z 0, hp, sge_zero, sle_last]; rfl
  rw [this]; rfl

/-- The words of the picks, the negative ones wrapped, as a column. -/
def wrappedColumn (ind : IVec S4x16x40 32) : IVec S4x16x40x1 32 :=
  broadcastInDim S4x16x40x1 ![0, 1, 2] bcast_S4x16x40_S4x16x40x1_0_1_2 (select (cmpi .slt ind (broadcastInDim S4x16x40 ![] bcast_S_S4x16x40 (constantI S_ 32 0#32))) (addi ind (broadcastInDim S4x16x40 ![] bcast_S_S4x16x40 (constantI S_ 32 2048#32))) ind)

theorem wrappedColumn_at (ind : IVec S4x16x40 32) (p : Fin 4 → Fin 16 → Fin 40 → Fin 2048)
    (hp : ∀ b h u, ind (ix3 b h u) = BitVec.ofNat 32 (p b h u).val) (b : Fin 4) (h : Fin 16) (u : Fin 40) :
    wrappedColumn ind (ix4 b h u 0) = BitVec.ofNat 32 (p b h u).val := by
  pointwise [wrappedColumn]
  rw [hp, slt_zero]; rfl

theorem gather_mask (x : IVec S2048x2048 1) (idx : IVec S4x16x40x1 32) (p : Fin 4 → Fin 16 → Fin 40 → Fin 2048)
    (hp : ∀ b h u, idx (ix4 b h u 0) = BitVec.ofNat 32 (p b h u).val) (b : Fin 4) (h : Fin 16) (u : Fin 40) (l : Fin 2048) :
    Host.gather gather_S2048x2048_S4x16x40x1_S4x16x40x2048_3_0_n_n_0_3_12048 x idx (ix4 b h u l) = x (ix2 (p b h u) l) := by
  unfold Host.gather
  congr 1
  funext a
  apply Fin.ext
  match a with
  | ⟨0, _⟩ =>
    show min (idx _).toInt.toNat 2047 + 0 + 0 = (p b h u).val
    refine Eq.trans ?_ ((congrArg (fun w : BitVec 32 => min w.toInt.toNat 2047) (hp b h u)).trans (word_place (p b h u)))
    refine congrArg (fun z => min (idx z).toInt.toNat 2047) ?_
    funext c; match c with | ⟨0, _⟩ => rfl | ⟨1, _⟩ => rfl | ⟨2, _⟩ => rfl | ⟨3, _⟩ => rfl
  | ⟨1, _⟩ => show 0 + 0 + l.val = l.val; omega

/-- The places above the diagonal. -/
def above : IVec S2048x2048 1 :=
  select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 0#1)) (broadcastInDim S2048x2048 ![] bcast_S_S2048x2048 (constantI S_ 1 1#1))

theorem above_at (p l : Fin 2048) : above (ix2 p l) = if l ≤ p then 0#1 else 1#1 := by
  pointwise [above]
  rw [show IntOp.addi (BitVec.ofNat 32 p.val) 0#32 = BitVec.ofNat 32 p.val from BitVec.add_zero _, cmpi_sge_ofNat (by omega) (by omega)]
  by_cases h : l.val ≤ p.val
  · rw [if_pos (Fin.le_def.mpr h)]; simp [Scalar.select, h]
  · rw [if_neg (fun h' => h (Fin.le_def.mp h'))]; simp [Scalar.select, h]

theorem bits_eighth : Ideal.ofBits .f32 0x3E000000#32 = ((1 / 8 : ℝ) : EReal) := by
  simp [Ideal.ofBits, Ideal.ieee]; rw [← EReal.coe_mul]; norm_num

/-- The masked scores. -/
def masked (tri : IVec S4x16x40x2048 1) (qr : FVec Ideal S4x16x40x64 .f32) (k : FVec Ideal S4x16x2048x64 .f32) : FVec Ideal S4x16x40x2048 .f32 :=
  select tri (broadcastInDim S4x16x40x2048 ![] bcast_S_S4x16x40x2048 (id (constant S_ .f32 0xFF800000#32))) (mulf (Host.dotGeneral (φ₁ := .f32) (φ₂ := .f32) dot_S4x16x40x64_S4x16x2048x64_S4x16x40x2048_3_3_2_2_01_01 none qr (k)) (broadcastInDim S4x16x40x2048 ![] bcast_S_S4x16x40x2048 (constant S_ .f32 0x3E000000#32)))

theorem masked_at (tri : IVec S4x16x40x2048 1) (qr : FVec Ideal S4x16x40x64 .f32) (k : FVec Ideal S4x16x2048x64 .f32) (Q K : Rows) (p : Fin 2048)
    (b : Fin 4) (h : Fin 16) (u : Fin 40) (l : Fin 2048) (ht : tri (ix4 b h u l) = if l ≤ p then 0#1 else 1#1)
    (hq : ∀ e, qr (ix4 b h u e) = Q p e) (hk : ∀ e, k (ix4 b h l e) = K l e) : masked tri qr k (ix4 b h u l) = score Q K p l := by
  pointwise [masked]
  rw [show (id (constant (F := Ideal) S_ .f32 0xFF800000#32)) ix0 = Ideal.ofBits .f32 0xFF800000#32 from rfl, ht, bits_bot, bits_eighth]
  simp only [hq, hk]
  unfold score
  by_cases h : l ≤ p
  · rw [if_pos h, if_pos h]; rfl
  · rw [if_neg h, if_neg h]; rfl

theorem v26_at (b : Fin 4) (h : Fin 16) (u : Fin 40) (l : Fin 2048) :
    res_main_v26 V0 (ix4 b h u l) = score (rQ V0 b h) (rK V0 b h) (picks V0 b h u) l :=
  masked_at (Host.gather gather_S2048x2048_S4x16x40x1_S4x16x40x2048_3_0_n_n_0_3_12048 above (wrappedColumn (res_main_indices V0)))
    (pickedRows (res_main_v0 V0) (res_main_call1_v4 V0)) (res_main_v1 V0) _ _ _ b h u l
    ((gather_mask _ _ (picks V0) (wrappedColumn_at _ (picks V0) (indices_at V0)) b h u l).trans (above_at _ _))
    (fun e => (pickedRows_at _ _ (picks V0) (call1_v4_at V0) b h u e).trans (v0_at V0 b h _ e)) (fun e => v1_at V0 b h l e)

/-- The exponentials of the scores less the greatest. -/
def expd (s : FVec Ideal S4x16x40x2048 .f32) : FVec Ideal S4x16x40x2048 .f32 :=
  Host.exp (subf (s) (broadcastInDim S4x16x40x2048 ![0, 1, 2, 3] bcast_S4x16x40x1_S4x16x40x2048_0_1_2_3 (broadcastInDim S4x16x40x1 ![0, 1, 2] bcast_S4x16x40_S4x16x40x1_0_1_2 (maximumf (broadcastInDim S4x16x40 ![] bcast_S_S4x16x40 (constant S_ .f32 0xFF800000#32)) (Host.reduce FloatOps.maximumf (s) (constant S_ .f32 0xFF800000#32) reducesTo_S4x16x40x2048_S4x16x40_d3 h_S_)))))

theorem highest_at (s : FVec Ideal S4x16x40x2048 .f32) (b : Fin 4) (h : Fin 16) (u : Fin 40) :
    (Host.reduce (FloatOps.maximumf (F := Ideal) (φ := .f32)) s (constant S_ .f32 0xFF800000#32) reducesTo_S4x16x40x2048_S4x16x40_d3 h_S_) (ix3 b h u)
      = Finset.univ.fold max (Ideal.ofBits .f32 0xFF800000#32) fun l => s (ix4 b h u l) := by
  pointwise []

theorem expd_of (s m : FVec Ideal S4x16x40x2048 .f32) (b : Fin 4) (h : Fin 16) (u : Fin 40) (l : Fin 2048) :
    Host.exp (subf s m) (ix4 b h u l) = Ideal.exp (s (ix4 b h u l) - m (ix4 b h u l)) := by
  pointwise []

theorem lifted_at (m : FVec Ideal S4x16x40 .f32) (b : Fin 4) (h : Fin 16) (u : Fin 40) (l : Fin 2048) :
    broadcastInDim S4x16x40x2048 ![0, 1, 2, 3] bcast_S4x16x40x1_S4x16x40x2048_0_1_2_3 (broadcastInDim S4x16x40x1 ![0, 1, 2] bcast_S4x16x40_S4x16x40x1_0_1_2 m) (ix4 b h u l)
      = m (ix3 b h u) := by
  pointwise []

theorem floor_at (m : FVec Ideal S4x16x40 .f32) (b : Fin 4) (h : Fin 16) (u : Fin 40) :
    maximumf (broadcastInDim S4x16x40 ![] bcast_S_S4x16x40 (constant S_ .f32 0xFF800000#32)) m (ix3 b h u) = max (Ideal.ofBits .f32 0xFF800000#32) (m (ix3 b h u)) := by
  pointwise []

theorem expd_at (s : FVec Ideal S4x16x40x2048 .f32) (Q K : Rows) (p : Fin 2048) (b : Fin 4) (h : Fin 16) (u : Fin 40)
    (hs : ∀ l, s (ix4 b h u l) = score Q K p l) (l : Fin 2048) : expd s (ix4 b h u l) = weight Q K p l := by
  unfold expd weight
  rw [expd_of, lifted_at, floor_at, highest_at, bits_bot, max_eq_right bot_le]
  simp only [hs]

theorem v33_at (b : Fin 4) (h : Fin 16) (u : Fin 40) (l : Fin 2048) :
    res_main_v33 V0 (ix4 b h u l) = weight (rQ V0 b h) (rK V0 b h) (picks V0 b h u) l :=
  expd_at (res_main_v26 V0) _ _ _ b h u (fun l => v26_at V0 b h u l) l

/-- The attended rows of a table of weights. -/
def attended (w : FVec Ideal S4x16x40x2048 .f32) (v : FVec Ideal S4x16x2048x64 .f32) : FVec Ideal S4x16x40x64 .f32 :=
  Host.dotGeneral (φ₁ := .f32) (φ₂ := .f32) dot_S4x16x40x2048_S4x16x2048x64_S4x16x40x64_3_2_2_3_01_01 none (Host.divf w (broadcastInDim S4x16x40x2048 ![0, 1, 2, 3] bcast_S4x16x40x1_S4x16x40x2048_0_1_2_3 (broadcastInDim S4x16x40x1 ![0, 1, 2] bcast_S4x16x40_S4x16x40x1_0_1_2 (Host.reduceAdd w (constant S_ .f32 0x00000000#32) reducesTo_S4x16x40x2048_S4x16x40_d3 h_S_)))) v

theorem sum_at (w : FVec Ideal S4x16x40x2048 .f32) (b : Fin 4) (h : Fin 16) (u : Fin 40) :
    (Host.reduceAdd w (constant S_ .f32 0x00000000#32) reducesTo_S4x16x40x2048_S4x16x40_d3 h_S_) (ix3 b h u) = ∑ l, w (ix4 b h u l) := by
  pointwise []

theorem quotient_at (w d : FVec Ideal S4x16x40x2048 .f32) (b : Fin 4) (h : Fin 16) (u : Fin 40) (l : Fin 2048) :
    Host.divf w d (ix4 b h u l) = Ideal.div (w (ix4 b h u l)) (d (ix4 b h u l)) := by
  pointwise []

theorem product_at (a : FVec Ideal S4x16x40x2048 .f32) (v : FVec Ideal S4x16x2048x64 .f32) (b : Fin 4) (h : Fin 16) (u : Fin 40) (e : Fin 64) :
    Host.dotGeneral (φ₁ := .f32) (φ₂ := .f32) dot_S4x16x40x2048_S4x16x2048x64_S4x16x40x64_3_2_2_3_01_01 none a v (ix4 b h u e)
      = ∑ l, a (ix4 b h u l) * v (ix4 b h l e) := by
  pointwise []

theorem attended_at (w : FVec Ideal S4x16x40x2048 .f32) (v : FVec Ideal S4x16x2048x64 .f32) (Q K V : Rows) (p : Fin 2048) (b : Fin 4) (h : Fin 16) (u : Fin 40)
    (hw : ∀ l, w (ix4 b h u l) = weight Q K p l) (hv : ∀ l e, v (ix4 b h l e) = V l e) (e : Fin 64) : attended w v (ix4 b h u e) = attend Q K V p e := by
  unfold attended attend
  rw [product_at]
  refine Finset.sum_congr rfl fun l _ => ?_
  rw [quotient_at, lifted_at, sum_at, hv]
  simp only [hw]

theorem upd_at (b : Fin 4) (h : Fin 16) (u : Fin 40) (e : Fin 64) :
    attended (res_main_v33 V0) (res_main_v2 V0) (ix4 b h u e) = attend (rQ V0 b h) (rK V0 b h) (rV V0 b h) (picks V0 b h u) e :=
  attended_at _ _ _ _ _ _ b h u (fun l => v33_at V0 b h u l) (fun l e => v2_at V0 b h l e) e

end Cert.ReferenceIdeal.Hand

end

end
-- ==== Proof.Reference.Result.lean ====
/-
  The reference's result: the running sums of the values, the attended rows set at the picks.
-/
module

public import proofs.«01_k».proof.Proof.Reference.Attend
public import Idealize.ShloMosaic.Lib.Routing.OpsSet
public import Idealize.ShloMosaic.Lib.Routing.OpsPair

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Idealize.SL.Sem
open ProbSparse Idealize.ShloMosaic.WordCmp

variable (V0 : Valuation τ sig (Elt Ideal))

/-! ### The running sums -/

theorem foldl_add {n : ℕ} (g : Fin n → EReal) : (List.finRange n).foldl (fun r k => r + g k) 0 = ∑ k, g k := by
  rw [← List.sum_ofFn, List.ofFn_eq_map, List.sum_eq_foldl, List.foldl_map]

/-- A window's term: the element there, nothing in the padding. -/
def windowTerm {s t : Shape} (window strides lo hi : Fin s.rank → ℕ) (x : s.Idx → EReal) (h : s.ReduceWindows window strides lo hi t) (j : t.Idx)
    (w : (⟨s.rank, window⟩ : Shape).Idx) : EReal :=
  if hin : ∀ a, lo a ≤ (j (a.cast h.1.symm)).val * strides a + (w a).val ∧ (j (a.cast h.1.symm)).val * strides a + (w a).val - lo a < s.size a then
    x (fun a => ⟨(j (a.cast h.1.symm)).val * strides a + (w a).val - lo a, (hin a).2⟩) else 0

/-- A window's sum from zero, over the window's positions. -/
theorem windows_sum {s t u : Shape} (window strides lo hi : Fin s.rank → ℕ) (x : s.Idx → EReal) (init : u.Idx → EReal)
    (h : s.ReduceWindows window strides lo hi t) (hu : 0 < u.numel) (h0 : init (Shape.Idx.first hu) = 0) (j : t.Idx) :
    Host.reduceWindow (· + ·) window strides lo hi x init h hu j = ∑ w, windowTerm window strides lo hi x h j w := by
  unfold Host.reduceWindow
  rw [h0]
  refine (foldl_add _).trans ((Finset.sum_congr rfl fun n _ => ?_).trans
    (Equiv.sum_comp (⟨s.rank, window⟩ : Shape).rowMajor.symm (windowTerm window strides lo hi x h j)))
  unfold windowTerm
  dsimp only
  split <;> rfl

/-- The terms of a window that ends at `l`. -/
theorem window_sum (c : ℕ → EReal) (l : Fin 2048) :
    (∑ w : Fin 2048, if 2047 ≤ l.val + w.val then c (l.val + w.val - 2047) else 0) = ∑ k ∈ Finset.range (l.val + 1), c k := by
  rw [Fin.sum_univ_eq_sum_range (fun w => if 2047 ≤ l.val + w then c (l.val + w - 2047) else 0) 2048,
    congrArg Finset.range (show 2048 = (2047 - l.val) + (l.val + 1) from by omega), Finset.sum_range_add, Finset.sum_eq_zero, zero_add]
  · refine Finset.sum_congr rfl fun k _ => ?_
    rw [if_pos (by omega)]
    congr 1; omega
  · intro w hw
    rw [if_neg]
    have := Finset.mem_range.mp hw
    omega

/-- The running sums along the places. -/
def summed (x : FVec Ideal S4x16x2048x64 .f32) : FVec Ideal S4x16x2048x64 .f32 :=
  Host.reduceWindowAdd ![1, 1, 2048, 1] ![1, 1, 1, 1] ![0, 0, 2047, 0] ![0, 0, 0, 0] x (broadcastInDim S_ ![] bcast_S_S_ (constant S_ .f32 0x00000000#32)) reduceWindows_S4x16x2048x64_S4x16x2048x64_w1s1p0_0_w1s1p0_0_w2048s1p2047_0_w1s1p0_0 h_S_

theorem term_at (x : FVec Ideal S4x16x2048x64 .f32) (V : Rows) (b : Fin 4) (h : Fin 16) (l : Fin 2048) (e : Fin 64)
    (hx : ∀ l e, x (ix4 b h l e) = V l e) (w : Fin 2048) :
    windowTerm ![1, 1, 2048, 1] ![1, 1, 1, 1] ![0, 0, 2047, 0] ![0, 0, 0, 0] x
        reduceWindows_S4x16x2048x64_S4x16x2048x64_w1s1p0_0_w1s1p0_0_w2048s1p2047_0_w1s1p0_0 (ix4 b h l e) (ix4 0 0 w 0)
      = if 2047 ≤ l.val + w.val then column V e (l.val + w.val - 2047) else 0 := by
  unfold windowTerm
  split
  · next hin =>
    have h2 : 2047 ≤ l.val * 1 + w.val := (hin 2).1
    rw [if_pos (by omega)]
    unfold column
    rw [dif_pos (by omega), ← hx]
    refine congrArg x (funext fun a => Fin.ext ?_)
    match a with
    | ⟨0, _⟩ => show b.val * 1 + 0 - 0 = b.val; omega
    | ⟨1, _⟩ => show h.val * 1 + 0 - 0 = h.val; omega
    | ⟨2, _⟩ => show l.val * 1 + w.val - 2047 = l.val + w.val - 2047; omega
    | ⟨3, _⟩ => show e.val * 1 + 0 - 0 = e.val; omega
  · next hin =>
    rw [if_neg]
    intro hle
    refine hin fun a => ?_
    match a with
    | ⟨0, _⟩ => show 0 ≤ b.val * 1 + 0 ∧ b.val * 1 + 0 - 0 < 4; omega
    | ⟨1, _⟩ => show 0 ≤ h.val * 1 + 0 ∧ h.val * 1 + 0 - 0 < 16; omega
    | ⟨2, _⟩ => show 2047 ≤ l.val * 1 + w.val ∧ l.val * 1 + w.val - 2047 < 2048; omega
    | ⟨3, _⟩ => show 0 ≤ e.val * 1 + 0 ∧ e.val * 1 + 0 - 0 < 64; omega

theorem summed_at (x : FVec Ideal S4x16x2048x64 .f32) (V : Rows) (b : Fin 4) (h : Fin 16) (l : Fin 2048) (e : Fin 64)
    (hx : ∀ l e, x (ix4 b h l e) = V l e) : summed x (ix4 b h l e) = running V l e := by
  have hz : broadcastInDim S_ ![] bcast_S_S_ (constant (F := Ideal) S_ .f32 0x00000000#32) (Shape.Idx.first h_S_) = (0 : EReal) := by
    show Ideal.ofBits .f32 0x00000000#32 = 0
    simp [Ideal.ofBits, Ideal.ieee]
  unfold summed Host.reduceWindowAdd
  rw [hz, Ideal.hostReduceWindowAdd_def]
  unfold Ideal.hostReduceWindowAdd
  rw [windows_sum _ _ _ _ _ _ _ _ rfl]
  refine (sum_idx4 _).trans ?_
  simp only [Fin.sum_univ_one]
  rw [running, ← window_sum]
  exact Finset.sum_congr rfl fun w _ => term_at x V b h l e hx w

/-! ### The rows set at the picks -/

/-- The table of a batch, a head and a place for every pick. -/
def spots (v40 : IVec S4x1x1 32) (v42 : IVec S1x16x1 32) (ind : IVec S4x16x40 32) : IVec S4x16x40x3 32 :=
  concatenate S4x16x40x3 3 [⟨S4x16x40x1, (broadcastInDim S4x16x40x1 ![0, 1, 2] bcast_S4x16x40_S4x16x40x1_0_1_2 (broadcastInDim S4x16x40 ![0, 1, 2] bcast_S4x1x1_S4x16x40_0_1_2 (select (cmpi .slt v40 (broadcastInDim S4x1x1 ![] bcast_S_S4x1x1 (constantI S_ 32 0#32))) (addi v40 (broadcastInDim S4x1x1 ![] bcast_S_S4x1x1 (constantI S_ 32 4#32))) v40)))⟩, ⟨S4x16x40x1, (broadcastInDim S4x16x40x1 ![0, 1, 2] bcast_S4x16x40_S4x16x40x1_0_1_2 (broadcastInDim S4x16x40 ![0, 1, 2] bcast_S1x16x1_S4x16x40_0_1_2 (select (cmpi .slt v42 (broadcastInDim S1x16x1 ![] bcast_S_S1x16x1 (constantI S_ 32 0#32))) (addi v42 (broadcastInDim S1x16x1 ![] bcast_S_S1x16x1 (constantI S_ 32 16#32))) v42)))⟩, ⟨S4x16x40x1, wrappedColumn ind⟩] concatenates_S4x16x40x1_S4x16x40x1_S4x16x40x1_S4x16x40x3_d3

theorem v40_at (b : Fin 4) : res_main_v40 V0 (ix3 b 0 0) = BitVec.ofNat 32 b.val := by
  have key : broadcastInDim S4x1x1 ![0] bcast_S4_S4x1x1_0 (iotaInDim S4 32 0) (ix3 b 0 0) = BitVec.ofNat 32 b.val := by pointwise []
  exact key

theorem v42_at (h : Fin 16) : res_main_v42 V0 (ix3 0 h 0) = BitVec.ofNat 32 h.val := by
  have key : broadcastInDim S1x16x1 ![1] bcast_S16_S1x16x1_1 (iotaInDim S16 32 0) (ix3 0 h 0) = BitVec.ofNat 32 h.val := by pointwise []
  exact key

theorem spots_at (v40 : IVec S4x1x1 32) (v42 : IVec S1x16x1 32) (ind : IVec S4x16x40 32) (p : Fin 4 → Fin 16 → Fin 40 → Fin 2048)
    (hb : ∀ b : Fin 4, v40 (ix3 b 0 0) = BitVec.ofNat 32 b.val) (hh : ∀ h : Fin 16, v42 (ix3 0 h 0) = BitVec.ofNat 32 h.val)
    (hp : ∀ b h u, ind (ix3 b h u) = BitVec.ofNat 32 (p b h u).val) (b : Fin 4) (h : Fin 16) (u : Fin 40) :
    spots v40 v42 ind (ix4 b h u 0) = BitVec.ofNat 32 b.val ∧ spots v40 v42 ind (ix4 b h u 1) = BitVec.ofNat 32 h.val
      ∧ spots v40 v42 ind (ix4 b h u 2) = BitVec.ofNat 32 (p b h u).val := by
  refine ⟨?_, ?_, ?_⟩
  · pointwise [spots]
    rw [hb]
    exact congrArg (fun z => Scalar.select z _ _) (slt_zero (b.castLE (by omega) : Fin 2048))
  · pointwise [spots]
    rw [hh]
    exact congrArg (fun z => Scalar.select z _ _) (slt_zero (h.castLE (by omega) : Fin 2048))
  · pointwise [spots]
    exact wrappedColumn_at ind p hp b h u

theorem int_word (n : ℕ) (hn : n < 2048) : (BitVec.ofNat 32 n).toInt = (n : Int) := by
  rw [BitVec.toInt_eq_toNat_of_lt (by rw [BitVec.toNat_ofNat]; omega), BitVec.toNat_ofNat, Nat.mod_eq_of_lt (by omega)]

/-- Where an update lands. -/
theorem lands (idx : IVec S4x16x40x3 32) (p : Fin 4 → Fin 16 → Fin 40 → Fin 2048)
    (h0 : ∀ b h u, idx (ix4 b h u 0) = BitVec.ofNat 32 b.val) (h1 : ∀ b h u, idx (ix4 b h u 1) = BitVec.ofNat 32 h.val)
    (h2 : ∀ b h u, idx (ix4 b h u 2) = BitVec.ofNat 32 (p b h u).val) (b b' : Fin 4) (h h' : Fin 16) (u : Fin 40) (l : Fin 2048) (e e' : Fin 64) :
    scatter_S4x16x2048x64_S4x16x40x3_S4x16x40x64_3_012_012_3.resultIdx? (ix4 b h u e) idx = some (ix4 b' h' l e')
      ↔ b = b' ∧ h = h' ∧ p b h u = l ∧ e = e' := by
  have e0 : ∀ c : Fin 3, scatter_S4x16x2048x64_S4x16x40x3_S4x16x40x64_3_012_012_3.siIdx (ix4 b h u e) c = (ix4 b h u c : S4x16x40x3.Idx) := fun c => by
    funext a; match a with | ⟨0, _⟩ => rfl | ⟨1, _⟩ => rfl | ⟨2, _⟩ => rfl | ⟨3, _⟩ => rfl
  have s0 : scatter_S4x16x2048x64_S4x16x40x3_S4x16x40x64_3_012_012_3.start (ix4 b h u e) idx (0 : Fin 4) = (b.val : Int) :=
    (congrArg (fun z => (idx z).toInt) (e0 0)).trans ((congrArg BitVec.toInt (h0 b h u)).trans (int_word _ (by omega)))
  have s1 : scatter_S4x16x2048x64_S4x16x40x3_S4x16x40x64_3_012_012_3.start (ix4 b h u e) idx (1 : Fin 4) = (h.val : Int) :=
    (congrArg (fun z => (idx z).toInt) (e0 1)).trans ((congrArg BitVec.toInt (h1 b h u)).trans (int_word _ (by omega)))
  have s2 : scatter_S4x16x2048x64_S4x16x40x3_S4x16x40x64_3_012_012_3.start (ix4 b h u e) idx (2 : Fin 4) = ((p b h u).val : Int) :=
    (congrArg (fun z => (idx z).toInt) (e0 2)).trans ((congrArg BitVec.toInt (h2 b h u)).trans (int_word _ (by omega)))
  rw [Routing.resultIdx?_eq_some]
  constructor
  · intro H
    have H0 : _ + ((0 : ℕ) : Int) = ((b'.val : ℕ) : Int) := H (0 : Fin 4)
    have H1 : _ + ((0 : ℕ) : Int) = ((h'.val : ℕ) : Int) := H (1 : Fin 4)
    have H2 : _ + ((0 : ℕ) : Int) = ((l.val : ℕ) : Int) := H (2 : Fin 4)
    have H3 : (0 : Int) + ((e.val : ℕ) : Int) = ((e'.val : ℕ) : Int) := H (3 : Fin 4)
    rw [s0] at H0; rw [s1] at H1; rw [s2] at H2
    exact ⟨Fin.ext (by omega), Fin.ext (by omega), Fin.ext (by omega), Fin.ext (by omega)⟩
  · rintro ⟨rfl, rfl, rfl, rfl⟩ a
    match a with
    | ⟨0, _⟩ => exact (congrArg (· + ((0 : ℕ) : Int)) s0).trans (add_zero _)
    | ⟨1, _⟩ => exact (congrArg (· + ((0 : ℕ) : Int)) s1).trans (add_zero _)
    | ⟨2, _⟩ => exact (congrArg (· + ((0 : ℕ) : Int)) s2).trans (add_zero _)
    | ⟨3, _⟩ => exact zero_add _

theorem set_at (x : FVec Ideal S4x16x2048x64 .f32) (idx : IVec S4x16x40x3 32) (upd : FVec Ideal S4x16x40x64 .f32) (p : Fin 4 → Fin 16 → Fin 40 → Fin 2048)
    (h0 : ∀ b h u, idx (ix4 b h u 0) = BitVec.ofNat 32 b.val) (h1 : ∀ b h u, idx (ix4 b h u 1) = BitVec.ofNat 32 h.val)
    (h2 : ∀ b h u, idx (ix4 b h u 2) = BitVec.ofNat 32 (p b h u).val) (b : Fin 4) (h : Fin 16) (l : Fin 2048) (e : Fin 64) (Q K V : Rows)
    (hp : ∀ u, p b h u = pick (measure Q K) u) (hx : x (ix4 b h l e) = running V l e)
    (hu : ∀ u, upd (ix4 b h u e) = attend Q K V (p b h u) e) :
    Host.scatter scatter_S4x16x2048x64_S4x16x40x3_S4x16x40x64_3_012_012_3 (fun _ b => b) x idx upd (ix4 b h l e) = result Q K V l e := by
  unfold result
  by_cases hl : ∃ u, pick (measure Q K) u = l
  · rw [if_pos hl]
    obtain ⟨u, rfl⟩ := hl
    refine Routing.scatter_set_hit _ x idx upd _ _ (fun k hk => ?_) (ix4 b h u e) ((lands idx p h0 h1 h2 _ _ _ _ _ _ _ _).mpr ⟨rfl, rfl, hp u, rfl⟩)
    idx_vars k
    obtain ⟨rfl, rfl, hl, rfl⟩ := (lands idx p h0 h1 h2 _ _ _ _ _ _ _ _).mp hk
    rw [hu, hl]
  · rw [if_neg hl, ← hx]
    refine Routing.scatter_set_miss _ x idx upd _ fun k hk => ?_
    idx_vars k
    obtain ⟨rfl, rfl, h', rfl⟩ := (lands idx p h0 h1 h2 _ _ _ _ _ _ _ _).mp hk
    exact hl ⟨_, (hp _).symm.trans h'⟩

/-- The result, by batch, place, head and lane. -/
def outcome (q k v : FVec Ideal S4x2048x16x64 .f32) : FVec Ideal S4x2048x16x64 .f32 :=
  fun i => result (rows q (i 0) (i 2)) (rows k (i 0) (i 2)) (rows v (i 0) (i 2)) (i 1) (i 3)

theorem turned_at (x : FVec Ideal S4x16x2048x64 .f32) (b : Fin 4) (l : Fin 2048) (h : Fin 16) (e : Fin 64) :
    transpose S4x2048x16x64 [0, 2, 1, 3] x transposes_S4x16x2048x64_S4x2048x16x64_0_2_1_3 (ix4 b l h e) = x (ix4 b h l e) := by
  pointwise []

theorem outcome_eq :
    transpose S4x2048x16x64 [0, 2, 1, 3] (Host.scatter scatter_S4x16x2048x64_S4x16x40x3_S4x16x40x64_3_012_012_3 (fun _ b => b) (summed (res_main_v2 V0))
        (spots (res_main_v40 V0) (res_main_v42 V0) (res_main_indices V0)) (attended (res_main_v33 V0) (res_main_v2 V0)))
      transposes_S4x16x2048x64_S4x2048x16x64_0_2_1_3
    = outcome (V0 (Proc.devRef .tc main_arg0)) (V0 (Proc.devRef .tc main_arg1)) (V0 (Proc.devRef .tc main_arg2)) := by
  funext i
  idx_vars i
  rw [turned_at]
  have hs := spots_at (res_main_v40 V0) (res_main_v42 V0) (res_main_indices V0) (picks V0) (v40_at V0) (v42_at V0) (indices_at V0)
  exact set_at _ _ _ (picks V0) (fun b h u => (hs b h u).1) (fun b h u => (hs b h u).2.1) (fun b h u => (hs b h u).2.2) _ _ _ _
    (rQ V0 _ _) (rK V0 _ _) (rV V0 _ _) (fun u => rfl) (summed_at _ _ _ _ _ _ fun l e => v2_at V0 _ _ l e) (fun u => upd_at V0 _ _ u _)

end Cert.ReferenceIdeal.Hand

end

end
-- ==== Proof.Value.lean ====
/-
  The precondition makes every measure more than minus infinity, and the kernel's and the reference's runs leave one
  and the same result.
-/
module

public import proofs.«01_k».proof.Defs
public import proofs.«01_k».proof.Proof.KernelIdeal.Steps
public import proofs.«01_k».proof.Proof.KernelIdeal.Entries
public import proofs.«01_k».proof.Proof.Reference.Result
public import Idealize.ShloMosaic.Adequacy
public import Idealize.ShloMosaic.Init

@[expose] public section

set_option maxRecDepth 16384

noncomputable section

namespace Cert.Proof

open Idealize.ShloMosaic Idealize.ShloMosaic.TcCoe Idealize.SL.Sem ProbSparse

instance preFacts : Cert.Pre_finite_queries_keys.Facts where
  bcast_S_S4x2048x16x64 := by decide

/-- A number whose absolute value compares below infinity is finite. -/
theorem finite_of_cmp (x : EReal) (h : Ideal.cmp .olt (max x (-x)) ⊤ = 1#1) : x ≠ ⊥ ∧ x ≠ ⊤ := by
  constructor
  · rintro rfl
    exact absurd h (by simp [Ideal.cmp])
  · rintro rfl
    exact absurd h (by simp [Ideal.cmp])

/-- The word of infinity is the extended reals' infinity. -/
theorem infinity_word : Ideal.ofBits .f32 0x7F800000#32 = ⊤ := by
  simp [Ideal.ofBits, Ideal.ieee]

theorem one_of_and : ∀ a b : BitVec 1, a &&& b = 1#1 → a = 1#1 ∧ b = 1#1 := by decide

/-- Under the precondition the queries and the keys are finite. -/
theorem finite_of_pre {q k v : FVec Ideal Cert.Pre_finite_queries_keys.S4x2048x16x64 .f32} {w : IVec Cert.Pre_finite_queries_keys.S1 1}
    (h : Cert.Pre_finite_queries_keys.fn (F := Ideal) q k v w = fun _ => 1#1) (y : Cert.Pre_finite_queries_keys.S4x2048x16x64.Idx) :
    ((q y : EReal) ≠ ⊥ ∧ (q y : EReal) ≠ ⊤) ∧ ((k y : EReal) ≠ ⊥ ∧ (k y : EReal) ≠ ⊤) := by
  have hy : (Ideal.cmp .olt (max (q y : EReal) (-(q y : EReal))) (Ideal.ofBits .f32 0x7F800000#32))
      &&& (Ideal.cmp .olt (max (k y : EReal) (-(k y : EReal))) (Ideal.ofBits .f32 0x7F800000#32)) = 1#1 := congrFun h y
  rw [infinity_word] at hy
  exact ⟨finite_of_cmp _ (one_of_and _ _ hy).1, finite_of_cmp _ (one_of_and _ _ hy).2⟩

section
open Cert.KernelIdeal Cert.KernelIdeal.Gen Cert.KernelIdeal.Hand

theorem measured_of_pre {q k v : FVec Ideal Cert.KernelIdeal.S4x2048x16x64 .f32} {w : IVec Cert.Pre_finite_queries_keys.S1 1}
    (h : Cert.Pre_finite_queries_keys.fn (F := Ideal) q k v w = fun _ => 1#1) : Measured q k :=
  fun b hd l => measure_ne_bot (fun l e => (finite_of_pre h (ix4 b l hd e)).1) (fun l e => (finite_of_pre h (ix4 b l hd e)).2) l

variable (m : (ℓ : Loc nD τ sig) → Buf (Elt Ideal) ℓ) (ρ : Dev nD → PrngReg)

/-- The kernel's run leaves the result of the launched queries, keys and values. -/
theorem kernel_run (h : Cert.Pre_KernelIdeal_finite_queries_keys m) :
    θ_run (defs (F := Ideal)) (onTc (τ := τ) (main (F := Ideal))) ⟨m, fun _ => 0, ρ⟩ (fun r => ∀ c : Dev nD,
      r.2.mem ((c.tc : Thread nD τ).loc main_v0)
          = Cert.KernelIdeal.Hand.outcome (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hm : ∀ c, Measured (V m c main_arg0) (V m c main_arg1) := fun c => by
    rw [V_main_arg0, V_main_arg1]
    exact measured_of_pre (h c)
  refine (θ_run defs _ _).mono (fun r hr c => ⟨?_, kept m hr.1.toR c⟩)
    (run_value m ρ (P := Cert.KernelIdeal.Hand.Set m) (steps m entry hm)
      (fun c => Cert.KernelIdeal.Hand.outcome (V m c main_arg0) (V m c main_arg1) (V m c main_arg2))
      (fun c y hy => absurd hy (Nat.not_lt_zero _))
      (fun c o ho => funext fun y => ho y (by
        have h0 : (y 0).val < 4 := (y 0).isLt
        have h2 : (y 2).val < 16 := (y 2).isLt
        show _ < 8
        omega)))
  refine (hr.1.written c (by decide)).trans ((Function.update_self _ _ _).trans ?_)
  rw [V_main_arg0, V_main_arg1, V_main_arg2]
end

section
open Cert.ReferenceIdeal Cert.ReferenceIdeal.Gen

variable (m : (ℓ : Loc nD τ sig) → Buf (Elt Ideal) ℓ) (ρ : Dev nD → PrngReg)

/-- The reference's run leaves the result of the launched queries, keys and values. -/
theorem reference_run :
    θ_run (defs (F := Ideal)) (onTc (τ := τ) (main (F := Ideal))) ⟨m, fun _ => 0, ρ⟩ (fun r => ∀ c : Dev nD,
      r.2.mem ((c.tc : Thread nD τ).loc main_v65)
          = Cert.ReferenceIdeal.Hand.outcome (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (Cert.ReferenceIdeal.Hand.outcome_eq (StableHlo.launchContents m c)), (h c).2⟩)
    (Cert.ReferenceIdeal.Value.run (F := Ideal) m ρ)
end

/-- The kernel's result and the reference's are one function of queries, keys and values. -/
theorem outcomes (q k v : FVec Ideal Cert.KernelIdeal.S4x2048x16x64 .f32) :
    Cert.ReferenceIdeal.Hand.outcome q k v = Cert.KernelIdeal.Hand.outcome q k v := rfl

theorem same_result : Cert.algebraic_KernelIdeal_ReferenceIdeal_pre_finite_queries_keys := by
  intro m g m' g' hpre hargs
  refine ⟨fun c => Cert.KernelIdeal.Hand.outcome (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), kernel_run m g hpre,
    (θ_run Cert.ReferenceIdeal.defs _ _).mono (fun r h c => ⟨(h c).1.trans ?_, (h c).2⟩) (reference_run m' g')⟩
  have h0 := (hargs c).1
  have h1 := (hargs c).2.1
  have h2 := (hargs c).2.2.1
  rw [h0, h1, h2]
  exact outcomes _ _ _

end Cert.Proof

end
-- ==== Proof.lean ====
/-
  The proof of this directory's certificate. The frames of the two kernel programs are the launches of
  Proof/Kernel/Launch.lean and of its twin over the idealized program; the reference's is its generated run. That the
  two idealized programs leave one result is Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference is a straight line of host operations and declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, preFacts,
  fun m ρ _ => Cert.Kernel.Hand.frame_main m ρ, fun m ρ _ => Cert.KernelIdeal.Hand.frame_main m ρ,
  fun m ρ _ => Cert.KernelIdeal.Hand.frame_main m ρ, frame_reference, fun m ρ _ => frame_reference m ρ trivial, trivial,
  same_result⟩

end Cert.Proof

end
